-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_states_in_range [hPre_states_in_range : Cert.Pre_states_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_states_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_states_in_range [hPre_states_in_range : Cert.Pre_states_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_states_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_states_in_range [hKernelIdeal : Cert.KernelIdeal.Facts] [hPre_states_in_range : Cert.Pre_states_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_states_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_states_in_range [hReferenceIdeal : Cert.ReferenceIdeal.Facts] [hPre_states_in_range : Cert.Pre_states_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_states_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_states_in_range [hKernelIdeal : Cert.KernelIdeal.Facts] [hReferenceIdeal : Cert.ReferenceIdeal.Facts] [hPre_states_in_range : Cert.Pre_states_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_states_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_states_in_range : Cert.Pre_states_in_range.Facts),
    quiescent_Kernel (hKernel := hKernel)
    ∧ quiescent_KernelIdeal (hKernelIdeal := hKernelIdeal)
    ∧ quiescent_KernelIdeal_pre_states_in_range (hKernelIdeal := hKernelIdeal) (hPre_states_in_range := hPre_states_in_range)
    ∧ quiescent_ReferenceIdeal (hReferenceIdeal := hReferenceIdeal)
    ∧ quiescent_ReferenceIdeal_pre_states_in_range (hReferenceIdeal := hReferenceIdeal) (hPre_states_in_range := hPre_states_in_range)
    ∧ preserves_Kernel_KernelIdeal
    ∧ algebraic_KernelIdeal_ReferenceIdeal_pre_states_in_range (hKernelIdeal := hKernelIdeal) (hReferenceIdeal := hReferenceIdeal) (hPre_states_in_range := hPre_states_in_range)
-- ==== Pre_states_in_range.lean ====
abbrev S2097152 : Shape := ⟨1, ![2097152]⟩
abbrev S6 : Shape := ⟨1, ![6]⟩
abbrev S3 : Shape := ⟨1, ![3]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel

variable [Facts]

def fn {F : FTy → Type} [FloatOps F] (main_arg0 : IVec S2097152 32) (main_arg1 : IVec S6 32) (main_arg2 : FVec F S3 .f32) : IVec S_ 1 :=
  let main_c : IVec S_ 32 := constantI S_ 32 0#32
  let main_v0 : IVec S2097152 32 := broadcastInDim S2097152 ![] bcast_S_S2097152 main_c
  let main_v1 : IVec S2097152 1 := cmpi .sge main_arg0 main_v0
  let main_c_0 : IVec S_ 32 := constantI S_ 32 2#32
  let main_v2 : IVec S2097152 32 := broadcastInDim S2097152 ![] bcast_S_S2097152 main_c_0
  let main_v3 : IVec S2097152 1 := cmpi .sle main_arg0 main_v2
  let main_v4 : IVec S2097152 1 := andi main_v1 main_v3
  let main_c_1 : IVec S_ 1 := constantI S_ 1 1#1
  let main_v5 : IVec S_ 1 := (fun x v => Host.reduce IntOp.andi x v reducesTo_S2097152_S_d0 h_S_) main_v4 main_c_1
  main_v5
-- ==== Kernel.lean ====
abbrev S2097152 : Shape := ⟨1, ![2097152]⟩
abbrev S6 : Shape := ⟨1, ![6]⟩
abbrev S3 : Shape := ⟨1, ![3]⟩
abbrev S6x2097152 : Shape := ⟨2, ![6, 2097152]⟩
abbrev S4096 : Shape := ⟨1, ![4096]⟩
abbrev S6x4096 : Shape := ⟨2, ![6, 4096]⟩
abbrev S16 : Shape := ⟨1, ![16]⟩
abbrev S_ : Shape := ⟨0, ![]⟩
abbrev S1 : Shape := ⟨1, ![1]⟩
abbrev S1x16 : Shape := ⟨2, ![1, 16]⟩
abbrev S2097152x6 : Shape := ⟨2, ![2097152, 6]⟩

abbrev nBuf : Table → Nat
  | .hbm => 5
  | .local .scVector .vmem => 6
  | _ => 0

abbrev bufTy : (tb : Table) → Fin (nBuf tb) → BufTy
  | .hbm, ⟨0, _⟩ => ⟨S2097152, .i32⟩
  | .hbm, ⟨1, _⟩ => ⟨S6, .i32⟩
  | .hbm, ⟨2, _⟩ => ⟨S3, .f32⟩
  | .hbm, ⟨3, _⟩ => ⟨S6x2097152, .f32⟩
  | .hbm, ⟨4, _⟩ => ⟨S2097152x6, .f32⟩
  | .local .scVector .vmem, ⟨0, _⟩ => ⟨S4096, .i32⟩
  | .local .scVector .vmem, ⟨1, _⟩ => ⟨S4096, .i32⟩
  | .local .scVector .vmem, ⟨2, _⟩ => ⟨S6x4096, .f32⟩
  | .local .scVector .vmem, ⟨3, _⟩ => ⟨S6x4096, .f32⟩
  | .local .scVector .vmem, ⟨4, _⟩ => ⟨S16, .i32⟩
  | .local .scVector .vmem, ⟨5, _⟩ => ⟨S16, .f32⟩
  | _, _ => ⟨S2097152, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c4096_i32 : BitVec 32 := 4096#32
  let v5 : BitVec 32 := Scalar.addi v2 c4096_i32
  ![v5.toNat]
@[reducible] def k0_t1_loop : Scf.Loop 32 :=
  let c0_i32_23 : BitVec 32 := 0#32
  let c8_i32 : BitVec 32 := 8#32
  let v88 : BitVec 32 := Scalar.addi c0_i32_23 c8_i32
  let c1_i32_24 : BitVec 32 := 1#32
  ⟨c0_i32_23, v88, c1_i32_24⟩
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_30 : BitVec 32 := 2#32
  let c0_i32_23 : BitVec 32 := 0#32
  let c1_i32_24 : BitVec 32 := 1#32
  let arg16 : BitVec 32 := Scf.iv c0_i32_23 c1_i32_24 k0_t1
  let v95 : BitVec 32 := Scalar.muli c2_i32_30 arg16
  let c4096_i32_31 : BitVec 32 := 4096#32
  let v96 : BitVec 32 := Scalar.muli v95 c4096_i32_31
  let v97 : BitVec 32 := Scalar.addi v2 v96
  ![v97.toNat]
def k0_cond1 (k0_t1 : Fin k0_t1_loop.trips) : BitVec 1 :=
  let c2_i32_30 : BitVec 32 := 2#32
  let c0_i32_23 : BitVec 32 := 0#32
  let c1_i32_24 : BitVec 32 := 1#32
  let arg16 : BitVec 32 := Scf.iv c0_i32_23 c1_i32_24 k0_t1
  let v95 : BitVec 32 := Scalar.muli c2_i32_30 arg16
  let c2_i32_32 : BitVec 32 := 2#32
  let v100 : BitVec 1 := Scalar.cmpi .sge v95 c2_i32_32
  let v101 : BitVec 32 := Scalar.extui v100
  let c0_i32_33 : BitVec 32 := 0#32
  let v102 : BitVec 1 := Scalar.cmpi .ne v101 c0_i32_33
  v102

def k0_off4 (i : grid0.Coords) (k0_t1 : Fin k0_t1_loop.trips) : Fin 2 → Nat :=
  let c0_i32_55 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_30 : BitVec 32 := 2#32
  let c0_i32_23 : BitVec 32 := 0#32
  let c1_i32_24 : BitVec 32 := 1#32
  let arg16 : BitVec 32 := Scf.iv c0_i32_23 c1_i32_24 k0_t1
  let v95 : BitVec 32 := Scalar.muli c2_i32_30 arg16
  let c4096_i32_31 : BitVec 32 := 4096#32
  let v96 : BitVec 32 := Scalar.muli v95 c4096_i32_31
  let v97 : BitVec 32 := Scalar.addi v2 v96
  let c8192_i32 : BitVec 32 := 8192#32
  let v126 : BitVec 32 := Scalar.subi v97 c8192_i32
  ![0, v126.toNat]
@[reducible] def k0_t2_loop : Scf.Loop 32 :=
  let c0_i32_34 : BitVec 32 := 0#32
  let c256_i32 : BitVec 32 := 256#32
  let v103 : BitVec 32 := Scalar.addi c0_i32_34 c256_i32
  let c1_i32_35 : BitVec 32 := 1#32
  ⟨c0_i32_34, v103, c1_i32_35⟩
def k0_off5 (k0_t2 : Fin k0_t2_loop.trips) : Fin 1 → Nat :=
  let c16_i32_57 : BitVec 32 := 16#32
  let c0_i32_56 : BitVec 32 := 0#32
  let c0_i32_34 : BitVec 32 := 0#32
  let c1_i32_35 : BitVec 32 := 1#32
  let arg17 : BitVec 32 := Scf.iv c0_i32_34 c1_i32_35 k0_t2
  let c1_i32_55 : BitVec 32 := 1#32
  let v126 : BitVec 32 := Scalar.muli arg17 c1_i32_55
  let v127 : BitVec 32 := Scalar.addi c0_i32_56 v126
  let v128 : BitVec 32 := Scalar.muli c16_i32_57 v127
  let v129 : Index := Scalar.indexCast v128
  ![v129.toNat]
def k0_off6 (k0_t2 : Fin k0_t2_loop.trips) : Fin 2 → Nat :=
  let c0_i32_61 : BitVec 32 := 0#32
  let v138 : Index := Scalar.indexCast c0_i32_61
  let c16_i32_60 : BitVec 32 := 16#32
  let c0_i32_56 : BitVec 32 := 0#32
  let c0_i32_34 : BitVec 32 := 0#32
  let c1_i32_35 : BitVec 32 := 1#32
  let arg17 : BitVec 32 := Scf.iv c0_i32_34 c1_i32_35 k0_t2
  let c1_i32_55 : BitVec 32 := 1#32
  let v126 : BitVec 32 := Scalar.muli arg17 c1_i32_55
  let v127 : BitVec 32 := Scalar.addi c0_i32_56 v126
  let v137 : BitVec 32 := Scalar.muli c16_i32_60 v127
  let v139 : Index := Scalar.indexCast v137
  ![0, v139.toNat]
def k0_off7 (k0_t2 : Fin k0_t2_loop.trips) : Fin 2 → Nat :=
  let c1_i32_63 : BitVec 32 := 1#32
  let v143 : Index := Scalar.indexCast c1_i32_63
  let c16_i32_62 : BitVec 32 := 16#32
  let c0_i32_56 : BitVec 32 := 0#32
  let c0_i32_34 : BitVec 32 := 0#32
  let c1_i32_35 : BitVec 32 := 1#32
  let arg17 : BitVec 32 := Scf.iv c0_i32_34 c1_i32_35 k0_t2
  let c1_i32_55 : BitVec 32 := 1#32
  let v126 : BitVec 32 := Scalar.muli arg17 c1_i32_55
  let v127 : BitVec 32 := Scalar.addi c0_i32_56 v126
  let v142 : BitVec 32 := Scalar.muli c16_i32_62 v127
  let v144 : Index := Scalar.indexCast v142
  ![1, v144.toNat]
def k0_off8 (k0_t2 : Fin k0_t2_loop.trips) : Fin 2 → Nat :=
  let c2_i32_65 : BitVec 32 := 2#32
  let v148 : Index := Scalar.indexCast c2_i32_65
  let c16_i32_64 : BitVec 32 := 16#32
  let c0_i32_56 : BitVec 32 := 0#32
  let c0_i32_34 : BitVec 32 := 0#32
  let c1_i32_35 : BitVec 32 := 1#32
  let arg17 : BitVec 32 := Scf.iv c0_i32_34 c1_i32_35 k0_t2
  let c1_i32_55 : BitVec 32 := 1#32
  let v126 : BitVec 32 := Scalar.muli arg17 c1_i32_55
  let v127 : BitVec 32 := Scalar.addi c0_i32_56 v126
  let v147 : BitVec 32 := Scalar.muli c16_i32_64 v127
  let v149 : Index := Scalar.indexCast v147
  ![2, v149.toNat]
def k0_off9 (k0_t2 : Fin k0_t2_loop.trips) : Fin 2 → Nat :=
  let c3_i32_67 : BitVec 32 := 3#32
  let v153 : Index := Scalar.indexCast c3_i32_67
  let c16_i32_66 : BitVec 32 := 16#32
  let c0_i32_56 : BitVec 32 := 0#32
  let c0_i32_34 : BitVec 32 := 0#32
  let c1_i32_35 : BitVec 32 := 1#32
  let arg17 : BitVec 32 := Scf.iv c0_i32_34 c1_i32_35 k0_t2
  let c1_i32_55 : BitVec 32 := 1#32
  let v126 : BitVec 32 := Scalar.muli arg17 c1_i32_55
  let v127 : BitVec 32 := Scalar.addi c0_i32_56 v126
  let v152 : BitVec 32 := Scalar.muli c16_i32_66 v127
  let v154 : Index := Scalar.indexCast v152
  ![3, v154.toNat]
def k0_off10 (k0_t2 : Fin k0_t2_loop.trips) : Fin 2 → Nat :=
  let c4_i32_69 : BitVec 32 := 4#32
  let v158 : Index := Scalar.indexCast c4_i32_69
  let c16_i32_68 : BitVec 32 := 16#32
  let c0_i32_56 : BitVec 32 := 0#32
  let c0_i32_34 : BitVec 32 := 0#32
  let c1_i32_35 : BitVec 32 := 1#32
  let arg17 : BitVec 32 := Scf.iv c0_i32_34 c1_i32_35 k0_t2
  let c1_i32_55 : BitVec 32 := 1#32
  let v126 : BitVec 32 := Scalar.muli arg17 c1_i32_55
  let v127 : BitVec 32 := Scalar.addi c0_i32_56 v126
  let v157 : BitVec 32 := Scalar.muli c16_i32_68 v127
  let v159 : Index := Scalar.indexCast v157
  ![4, v159.toNat]
def k0_off11 (k0_t2 : Fin k0_t2_loop.trips) : Fin 2 → Nat :=
  let c5_i32_71 : BitVec 32 := 5#32
  let v163 : Index := Scalar.indexCast c5_i32_71
  let c16_i32_70 : BitVec 32 := 16#32
  let c0_i32_56 : BitVec 32 := 0#32
  let c0_i32_34 : BitVec 32 := 0#32
  let c1_i32_35 : BitVec 32 := 1#32
  let arg17 : BitVec 32 := Scf.iv c0_i32_34 c1_i32_35 k0_t2
  let c1_i32_55 : BitVec 32 := 1#32
  let v126 : BitVec 32 := Scalar.muli arg17 c1_i32_55
  let v127 : BitVec 32 := Scalar.addi c0_i32_56 v126
  let v162 : BitVec 32 := Scalar.muli c16_i32_70 v127
  let v164 : Index := Scalar.indexCast v162
  ![5, v164.toNat]
def k0_cond2 (k0_t1 : Fin k0_t1_loop.trips) : BitVec 1 :=
  let c2_i32_30 : BitVec 32 := 2#32
  let c0_i32_23 : BitVec 32 := 0#32
  let c1_i32_24 : BitVec 32 := 1#32
  let arg16 : BitVec 32 := Scf.iv c0_i32_23 c1_i32_24 k0_t1
  let v95 : BitVec 32 := Scalar.muli c2_i32_30 arg16
  let c2_i32_37 : BitVec 32 := 2#32
  let v104 : BitVec 32 := Scalar.addi v95 c2_i32_37
  let c16_i32 : BitVec 32 := 16#32
  let v105 : BitVec 1 := Scalar.cmpi .slt v104 c16_i32
  let v106 : BitVec 32 := Scalar.extui v105
  let c0_i32_38 : BitVec 32 := 0#32
  let v107 : BitVec 1 := Scalar.cmpi .ne v106 c0_i32_38
  v107

def k0_off12 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_30 : BitVec 32 := 2#32
  let c0_i32_23 : BitVec 32 := 0#32
  let c1_i32_24 : BitVec 32 := 1#32
  let arg16 : BitVec 32 := Scf.iv c0_i32_23 c1_i32_24 k0_t1
  let v95 : BitVec 32 := Scalar.muli c2_i32_30 arg16
  let c4096_i32_31 : BitVec 32 := 4096#32
  let v96 : BitVec 32 := Scalar.muli v95 c4096_i32_31
  let v97 : BitVec 32 := Scalar.addi v2 v96
  let c8192_i32 : BitVec 32 := 8192#32
  let v126 : BitVec 32 := Scalar.addi v97 c8192_i32
  ![v126.toNat]
def k0_off13 (i : grid0.Coords) (k0_t1 : Fin k0_t1_loop.trips) : Fin 2 → Nat :=
  let c0_i32_39 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_30 : BitVec 32 := 2#32
  let c0_i32_23 : BitVec 32 := 0#32
  let c1_i32_24 : BitVec 32 := 1#32
  let arg16 : BitVec 32 := Scf.iv c0_i32_23 c1_i32_24 k0_t1
  let v95 : BitVec 32 := Scalar.muli c2_i32_30 arg16
  let c4096_i32_31 : BitVec 32 := 4096#32
  let v96 : BitVec 32 := Scalar.muli v95 c4096_i32_31
  let v97 : BitVec 32 := Scalar.addi v2 v96
  ![0, v97.toNat]
def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_41 : BitVec 32 := 2#32
  let c0_i32_23 : BitVec 32 := 0#32
  let c1_i32_24 : BitVec 32 := 1#32
  let arg16 : BitVec 32 := Scf.iv c0_i32_23 c1_i32_24 k0_t1
  let v110 : BitVec 32 := Scalar.muli c2_i32_41 arg16
  let c1_i32_42 : BitVec 32 := 1#32
  let v111 : BitVec 32 := Scalar.addi v110 c1_i32_42
  let c4096_i32_43 : BitVec 32 := 4096#32
  let v112 : BitVec 32 := Scalar.muli v111 c4096_i32_43
  let v113 : BitVec 32 := Scalar.addi v2 v112
  ![v113.toNat]
def k0_cond3 (k0_t1 : Fin k0_t1_loop.trips) : BitVec 1 :=
  let c2_i32_41 : BitVec 32 := 2#32
  let c0_i32_23 : BitVec 32 := 0#32
  let c1_i32_24 : BitVec 32 := 1#32
  let arg16 : BitVec 32 := Scf.iv c0_i32_23 c1_i32_24 k0_t1
  let v110 : BitVec 32 := Scalar.muli c2_i32_41 arg16
  let c1_i32_42 : BitVec 32 := 1#32
  let v111 : BitVec 32 := Scalar.addi v110 c1_i32_42
  let c2_i32_44 : BitVec 32 := 2#32
  let v116 : BitVec 1 := Scalar.cmpi .sge v111 c2_i32_44
  let v117 : BitVec 32 := Scalar.extui v116
  let c0_i32_45 : BitVec 32 := 0#32
  let v118 : BitVec 1 := Scalar.cmpi .ne v117 c0_i32_45
  v118

def k0_off15 (i : grid0.Coords) (k0_t1 : Fin k0_t1_loop.trips) : Fin 2 → Nat :=
  let c0_i32_55 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_41 : BitVec 32 := 2#32
  let c0_i32_23 : BitVec 32 := 0#32
  let c1_i32_24 : BitVec 32 := 1#32
  let arg16 : BitVec 32 := Scf.iv c0_i32_23 c1_i32_24 k0_t1
  let v110 : BitVec 32 := Scalar.muli c2_i32_41 arg16
  let c1_i32_42 : BitVec 32 := 1#32
  let v111 : BitVec 32 := Scalar.addi v110 c1_i32_42
  let c4096_i32_43 : BitVec 32 := 4096#32
  let v112 : BitVec 32 := Scalar.muli v111 c4096_i32_43
  let v113 : BitVec 32 := Scalar.addi v2 v112
  let c8192_i32 : BitVec 32 := 8192#32
  let v126 : BitVec 32 := Scalar.subi v113 c8192_i32
  ![0, v126.toNat]
@[reducible] def k0_t3_loop : Scf.Loop 32 :=
  let c0_i32_46 : BitVec 32 := 0#32
  let c256_i32_47 : BitVec 32 := 256#32
  let v119 : BitVec 32 := Scalar.addi c0_i32_46 c256_i32_47
  let c1_i32_48 : BitVec 32 := 1#32
  ⟨c0_i32_46, v119, c1_i32_48⟩
def k0_off16 (k0_t3 : Fin k0_t3_loop.trips) : Fin 1 → Nat :=
  let c16_i32_57 : BitVec 32 := 16#32
  let c0_i32_56 : BitVec 32 := 0#32
  let c0_i32_46 : BitVec 32 := 0#32
  let c1_i32_48 : BitVec 32 := 1#32
  let arg17 : BitVec 32 := Scf.iv c0_i32_46 c1_i32_48 k0_t3
  let c1_i32_55 : BitVec 32 := 1#32
  let v126 : BitVec 32 := Scalar.muli arg17 c1_i32_55
  let v127 : BitVec 32 := Scalar.addi c0_i32_56 v126
  let v128 : BitVec 32 := Scalar.muli c16_i32_57 v127
  let v129 : Index := Scalar.indexCast v128
  ![v129.toNat]
def k0_off17 (k0_t3 : Fin k0_t3_loop.trips) : Fin 2 → Nat :=
  let c0_i32_61 : BitVec 32 := 0#32
  let v138 : Index := Scalar.indexCast c0_i32_61
  let c16_i32_60 : BitVec 32 := 16#32
  let c0_i32_56 : BitVec 32 := 0#32
  let c0_i32_46 : BitVec 32 := 0#32
  let c1_i32_48 : BitVec 32 := 1#32
  let arg17 : BitVec 32 := Scf.iv c0_i32_46 c1_i32_48 k0_t3
  let c1_i32_55 : BitVec 32 := 1#32
  let v126 : BitVec 32 := Scalar.muli arg17 c1_i32_55
  let v127 : BitVec 32 := Scalar.addi c0_i32_56 v126
  let v137 : BitVec 32 := Scalar.muli c16_i32_60 v127
  let v139 : Index := Scalar.indexCast v137
  ![0, v139.toNat]
def k0_off18 (k0_t3 : Fin k0_t3_loop.trips) : Fin 2 → Nat :=
  let c1_i32_63 : BitVec 32 := 1#32
  let v143 : Index := Scalar.indexCast c1_i32_63
  let c16_i32_62 : BitVec 32 := 16#32
  let c0_i32_56 : BitVec 32 := 0#32
  let c0_i32_46 : BitVec 32 := 0#32
  let c1_i32_48 : BitVec 32 := 1#32
  let arg17 : BitVec 32 := Scf.iv c0_i32_46 c1_i32_48 k0_t3
  let c1_i32_55 : BitVec 32 := 1#32
  let v126 : BitVec 32 := Scalar.muli arg17 c1_i32_55
  let v127 : BitVec 32 := Scalar.addi c0_i32_56 v126
  let v142 : BitVec 32 := Scalar.muli c16_i32_62 v127
  let v144 : Index := Scalar.indexCast v142
  ![1, v144.toNat]
def k0_off19 (k0_t3 : Fin k0_t3_loop.trips) : Fin 2 → Nat :=
  let c2_i32_65 : BitVec 32 := 2#32
  let v148 : Index := Scalar.indexCast c2_i32_65
  let c16_i32_64 : BitVec 32 := 16#32
  let c0_i32_56 : BitVec 32 := 0#32
  let c0_i32_46 : BitVec 32 := 0#32
  let c1_i32_48 : BitVec 32 := 1#32
  let arg17 : BitVec 32 := Scf.iv c0_i32_46 c1_i32_48 k0_t3
  let c1_i32_55 : BitVec 32 := 1#32
  let v126 : BitVec 32 := Scalar.muli arg17 c1_i32_55
  let v127 : BitVec 32 := Scalar.addi c0_i32_56 v126
  let v147 : BitVec 32 := Scalar.muli c16_i32_64 v127
  let v149 : Index := Scalar.indexCast v147
  ![2, v149.toNat]
def k0_off20 (k0_t3 : Fin k0_t3_loop.trips) : Fin 2 → Nat :=
  let c3_i32_67 : BitVec 32 := 3#32
  let v153 : Index := Scalar.indexCast c3_i32_67
  let c16_i32_66 : BitVec 32 := 16#32
  let c0_i32_56 : BitVec 32 := 0#32
  let c0_i32_46 : BitVec 32 := 0#32
  let c1_i32_48 : BitVec 32 := 1#32
  let arg17 : BitVec 32 := Scf.iv c0_i32_46 c1_i32_48 k0_t3
  let c1_i32_55 : BitVec 32 := 1#32
  let v126 : BitVec 32 := Scalar.muli arg17 c1_i32_55
  let v127 : BitVec 32 := Scalar.addi c0_i32_56 v126
  let v152 : BitVec 32 := Scalar.muli c16_i32_66 v127
  let v154 : Index := Scalar.indexCast v152
  ![3, v154.toNat]
def k0_off21 (k0_t3 : Fin k0_t3_loop.trips) : Fin 2 → Nat :=
  let c4_i32_69 : BitVec 32 := 4#32
  let v158 : Index := Scalar.indexCast c4_i32_69
  let c16_i32_68 : BitVec 32 := 16#32
  let c0_i32_56 : BitVec 32 := 0#32
  let c0_i32_46 : BitVec 32 := 0#32
  let c1_i32_48 : BitVec 32 := 1#32
  let arg17 : BitVec 32 := Scf.iv c0_i32_46 c1_i32_48 k0_t3
  let c1_i32_55 : BitVec 32 := 1#32
  let v126 : BitVec 32 := Scalar.muli arg17 c1_i32_55
  let v127 : BitVec 32 := Scalar.addi c0_i32_56 v126
  let v157 : BitVec 32 := Scalar.muli c16_i32_68 v127
  let v159 : Index := Scalar.indexCast v157
  ![4, v159.toNat]
def k0_off22 (k0_t3 : Fin k0_t3_loop.trips) : Fin 2 → Nat :=
  let c5_i32_71 : BitVec 32 := 5#32
  let v163 : Index := Scalar.indexCast c5_i32_71
  let c16_i32_70 : BitVec 32 := 16#32
  let c0_i32_56 : BitVec 32 := 0#32
  let c0_i32_46 : BitVec 32 := 0#32
  let c1_i32_48 : BitVec 32 := 1#32
  let arg17 : BitVec 32 := Scf.iv c0_i32_46 c1_i32_48 k0_t3
  let c1_i32_55 : BitVec 32 := 1#32
  let v126 : BitVec 32 := Scalar.muli arg17 c1_i32_55
  let v127 : BitVec 32 := Scalar.addi c0_i32_56 v126
  let v162 : BitVec 32 := Scalar.muli c16_i32_70 v127
  let v164 : Index := Scalar.indexCast v162
  ![5, v164.toNat]
def k0_cond4 (k0_t1 : Fin k0_t1_loop.trips) : BitVec 1 :=
  let c2_i32_41 : BitVec 32 := 2#32
  let c0_i32_23 : BitVec 32 := 0#32
  let c1_i32_24 : BitVec 32 := 1#32
  let arg16 : BitVec 32 := Scf.iv c0_i32_23 c1_i32_24 k0_t1
  let v110 : BitVec 32 := Scalar.muli c2_i32_41 arg16
  let c1_i32_42 : BitVec 32 := 1#32
  let v111 : BitVec 32 := Scalar.addi v110 c1_i32_42
  let c2_i32_50 : BitVec 32 := 2#32
  let v120 : BitVec 32 := Scalar.addi v111 c2_i32_50
  let c16_i32_51 : BitVec 32 := 16#32
  let v121 : BitVec 1 := Scalar.cmpi .slt v120 c16_i32_51
  let v122 : BitVec 32 := Scalar.extui v121
  let c0_i32_52 : BitVec 32 := 0#32
  let v123 : BitVec 1 := Scalar.cmpi .ne v122 c0_i32_52
  v123

def k0_off23 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_41 : BitVec 32 := 2#32
  let c0_i32_23 : BitVec 32 := 0#32
  let c1_i32_24 : BitVec 32 := 1#32
  let arg16 : BitVec 32 := Scf.iv c0_i32_23 c1_i32_24 k0_t1
  let v110 : BitVec 32 := Scalar.muli c2_i32_41 arg16
  let c1_i32_42 : BitVec 32 := 1#32
  let v111 : BitVec 32 := Scalar.addi v110 c1_i32_42
  let c4096_i32_43 : BitVec 32 := 4096#32
  let v112 : BitVec 32 := Scalar.muli v111 c4096_i32_43
  let v113 : BitVec 32 := Scalar.addi v2 v112
  let c8192_i32 : BitVec 32 := 8192#32
  let v126 : BitVec 32 := Scalar.addi v113 c8192_i32
  ![v126.toNat]
def k0_off24 (i : grid0.Coords) (k0_t1 : Fin k0_t1_loop.trips) : Fin 2 → Nat :=
  let c0_i32_53 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_41 : BitVec 32 := 2#32
  let c0_i32_23 : BitVec 32 := 0#32
  let c1_i32_24 : BitVec 32 := 1#32
  let arg16 : BitVec 32 := Scf.iv c0_i32_23 c1_i32_24 k0_t1
  let v110 : BitVec 32 := Scalar.muli c2_i32_41 arg16
  let c1_i32_42 : BitVec 32 := 1#32
  let v111 : BitVec 32 := Scalar.addi v110 c1_i32_42
  let c4096_i32_43 : BitVec 32 := 4096#32
  let v112 : BitVec 32 := Scalar.muli v111 c4096_i32_43
  let v113 : BitVec 32 := Scalar.addi v2 v112
  ![0, v113.toNat]
def k0_off25 (i : grid0.Coords) (c57344_i32 : BitVec 32) : Fin 2 → Nat :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v89 : BitVec 32 := Scalar.addi v2 c57344_i32
  ![0, v89.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2097152 : Shape := ⟨1, ![2097152]⟩
abbrev S6 : Shape := ⟨1, ![6]⟩
abbrev S3 : Shape := ⟨1, ![3]⟩
abbrev S_ : Shape := ⟨0, ![]⟩
abbrev S2097152x6 : Shape := ⟨2, ![2097152, 6]⟩
abbrev S2097152x1 : Shape := ⟨2, ![2097152, 1]⟩
abbrev S1x6 : Shape := ⟨2, ![1, 6]⟩
abbrev S1 : Shape := ⟨1, ![1]⟩

abbrev nBuf : Space → Nat
  | .hbm => 40
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S6, .i32⟩
  | .hbm, ⟨2, _⟩ => ⟨S3, .f32⟩
  | .hbm, ⟨3, _⟩ => ⟨S_, .f32⟩
  | .hbm, ⟨4, _⟩ => ⟨S2097152x6, .f32⟩
  | .hbm, ⟨5, _⟩ => ⟨S2097152x1, .i32⟩
  | .hbm, ⟨6, _⟩ => ⟨S_, .i32⟩
  | .hbm, ⟨7, _⟩ => ⟨S2097152x6, .i32⟩
  | .hbm, ⟨8, _⟩ => ⟨S2097152x6, .i32⟩
  | .hbm, ⟨9, _⟩ => ⟨S2097152x6, .i32⟩
  | .hbm, ⟨10, _⟩ => ⟨S1x6, .i32⟩
  | .hbm, ⟨11, _⟩ => ⟨S_, .i32⟩
  | .hbm, ⟨12, _⟩ => ⟨S2097152x6, .i32⟩
  | .hbm, ⟨13, _⟩ => ⟨S2097152x6, .i1⟩
  | .hbm, ⟨14, _⟩ => ⟨S1, .f32⟩
  | .hbm, ⟨15, _⟩ => ⟨S_, .f32⟩
  | .hbm, ⟨16, _⟩ => ⟨S2097152x6, .f32⟩
  | .hbm, ⟨17, _⟩ => ⟨S2097152x6, .f32⟩
  | .hbm, ⟨18, _⟩ => ⟨S_, .i32⟩
  | .hbm, ⟨19, _⟩ => ⟨S2097152x6, .i32⟩
  | .hbm, ⟨20, _⟩ => ⟨S2097152x6, .i1⟩
  | .hbm, ⟨21, _⟩ => ⟨S_, .i32⟩
  | .hbm, ⟨22, _⟩ => ⟨S1x6, .i32⟩
  | .hbm, ⟨23, _⟩ => ⟨S1x6, .i1⟩
  | .hbm, ⟨24, _⟩ => ⟨S2097152x6, .i1⟩
  | .hbm, ⟨25, _⟩ => ⟨S2097152x6, .i1⟩
  | .hbm, ⟨26, _⟩ => ⟨S1, .f32⟩
  | .hbm, ⟨27, _⟩ => ⟨S_, .f32⟩
  | .hbm, ⟨28, _⟩ => ⟨S2097152x6, .f32⟩
  | .hbm, ⟨29, _⟩ => ⟨S2097152x6, .f32⟩
  | .hbm, ⟨30, _⟩ => ⟨S_, .i32⟩
  | .hbm, ⟨31, _⟩ => ⟨S1x6, .i32⟩
  | .hbm, ⟨32, _⟩ => ⟨S1x6, .i1⟩
  | .hbm, ⟨33, _⟩ => ⟨S2097152x6, .i1⟩
  | .hbm, ⟨34, _⟩ => ⟨S2097152x6, .i1⟩
  | .hbm, ⟨35, _⟩ => ⟨S1, .f32⟩
  | .hbm, ⟨36, _⟩ => ⟨S_, .f32⟩
  | .hbm, ⟨37, _⟩ => ⟨S2097152x6, .f32⟩
  | .hbm, ⟨38, _⟩ => ⟨S2097152x6, .f32⟩
  | .hbm, ⟨39, _⟩ => ⟨S2097152x6, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call2_v0 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.Setup.lean ====
/-
  The set-up shared by the modules about the SparseCore launch: the program as the launch theorem sees it, the
  arrays' chunks (512 blocks of 4096 states, 512 column blocks of the six result rows), the value that the launch leaves
  in the result, and what the handshakes carry.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import Idealize.ShloMosaic.Lib.WritesUnit
public import proofs.«01_k».proof.Proof.Gen.KernelIdeal
public import proofs.«01_k».proof.Proof.Gen.KernelIdeal.Skeleton

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers and their chunks -/

abbrev sLoc (d : Dev nD) : Loc nD τ sig := (SparseCore.T d).loc main_arg0
abbrev oLoc (d : Dev nD) : Loc nD τ sig := (SparseCore.T d).loc main_arg1
abbrev pLoc (d : Dev nD) : Loc nD τ sig := (SparseCore.T d).loc main_arg2
abbrev wLoc (d : Dev nD) : Loc nD τ sig := (SparseCore.T d).loc main_v0
abbrev zLoc (d : Dev nD) : Loc nD τ sig := (SparseCore.T d).loc main_v1

/-- The whole state array, as a tile names it. -/
abbrev sM : Memref sig Kind.scVector Space.hbm S2097152 EltTy.i32 := Memref.whole main_arg0_scv
/-- The observation counts. -/
abbrev oM : Memref sig Kind.scVector Space.hbm S6 EltTy.i32 := Memref.whole main_arg1_scv
/-- The three probabilities. -/
abbrev pM : Memref sig Kind.scVector Space.hbm S3 EltTy.f32 := Memref.whole main_arg2_scv
/-- The six rows that the launch writes. -/
abbrev wM : Memref sig Kind.scVector Space.hbm S6x2097152 EltTy.f32 := Memref.whole main_v0_scv
/-- The two state buffers of a tile, -/
abbrev stA : Memref sig Kind.scVector Space.vmem S4096 EltTy.i32 := Memref.whole cc0_scratch0
abbrev stB : Memref sig Kind.scVector Space.vmem S4096 EltTy.i32 := Memref.whole cc0_scratch1
/-- its two result buffers -/
abbrev ouA : Memref sig Kind.scVector Space.vmem S6x4096 EltTy.f32 := Memref.whole cc0_scratch2
abbrev ouB : Memref sig Kind.scVector Space.vmem S6x4096 EltTy.f32 := Memref.whole cc0_scratch3
/-- and its copies of the two tables. -/
abbrev obM : Memref sig Kind.scVector Space.vmem S16 EltTy.i32 := Memref.whole cc0_scratch4
abbrev prM : Memref sig Kind.scVector Space.vmem S16 EltTy.f32 := Memref.whole cc0_scratch5

theorem sdiv : 512 ∣ S2097152.size 0 := ⟨4096, rfl⟩
theorem wdiv : 512 ∣ S6x2097152.size 1 := ⟨4096, rfl⟩
/-- Chunk `n` of the states; -/
abbrev sSet (n : Fin 512) : Finset S2097152.Idx := (Rect.part (s := S2097152) (a₀ := 0) sdiv n).set
/-- chunk `n` of the result: all six rows at chunk `n`'s states. -/
abbrev wSet (n : Fin 512) : Finset S6x2097152.Idx := (Rect.part (s := S6x2097152) (a₀ := 1) wdiv n).set

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The number of the chunk that the tile works on in trip `t`: `b = 0` for the first half, `b = 1` for the second. -/
def ch (L : grid0.Coords) (t : Fin 8) (b : Fin 2) : Fin 512 :=
  ⟨32 * (L 1).val + 16 * (L 0).val + 2 * t.val + b.val, by
    have h0 : (L 0).val < 2 := (L 0).isLt
    have h1 : (L 1).val < 16 := (L 1).isLt
    omega⟩

/-! ## The value -/

/-- The index of a vector at position `v`; -/
def ix1 {n : ℕ} (v : Fin n) : (⟨1, ![n]⟩ : Shape).Idx := fun | 0 => v
/-- of a table at row `a`, column `b`. -/
def ix2 {k n : ℕ} (a : Fin k) (b : Fin n) : (⟨2, ![k, n]⟩ : Shape).Idx := fun | 0 => a | 1 => b

theorem ix1_eta {n : ℕ} (x : (⟨1, ![n]⟩ : Shape).Idx) : ix1 (x 0) = x := by
  funext a; match a with | 0 => rfl
theorem ix2_eta {k n : ℕ} (x : (⟨2, ![k, n]⟩ : Shape).Idx) : ix2 (x 0) (x 1) = x := by
  funext a; match a with | 0 => rfl | 1 => rfl

section Value
variable [FloatOps F]

/-- One element of the result: the row's value `r` where the state is 2, `n` where it is 0, `a` elsewhere. -/
def cell (a n r : F .f32) (s : BitVec 32) : F .f32 :=
  Scalar.select (IntOp.cmpi .eq s 2#32) r (Scalar.select (IntOp.cmpi .eq s 0#32) n a)

/-- The observation counts in sixteen lanes, zeros behind them; -/
def obPad (o : S6.Idx → BitVec 32) : S16.Idx → BitVec 32 :=
  fun j => if h : (j 0).val < 6 then o (ix1 ⟨(j 0).val, h⟩) else 0#32
/-- the probabilities in sixteen lanes, ones behind them. -/
def prPad (p : S3.Idx → F .f32) : S16.Idx → F .f32 :=
  fun j => if h : (j 0).val < 3 then p (ix1 ⟨(j 0).val, h⟩) else FloatOps.ofBits .f32 0x3F800000#32

/-- The lanes' numbers. -/
abbrev lanes : IVec S16 32 := iota .scVector S16 32 [0] iota_S16_d0_w32_scVector

/-- What a tile writes where the state is 1: -/
def aVal (p : S3.Idx → F .f32) : F .f32 := k0_pay23 (prPad p) (ix1 0)
/-- where it is 0: -/
def nVal : F .f32 := k0_pay24 (ix1 0)
/-- and, in row `j`, where it is 2. -/
def rVal (o : S6.Idx → BitVec 32) (p : S3.Idx → F .f32) (j : Fin 6) : F .f32 :=
  (match j with
    | 0 => k0_pay25 lanes (k0_pay20 (F := F) (obPad o)) (k0_pay21 (prPad p)) (k0_pay22 (prPad p))
    | 1 => k0_pay26 lanes (k0_pay20 (F := F) (obPad o)) (k0_pay21 (prPad p)) (k0_pay22 (prPad p))
    | 2 => k0_pay27 lanes (k0_pay20 (F := F) (obPad o)) (k0_pay21 (prPad p)) (k0_pay22 (prPad p))
    | 3 => k0_pay28 lanes (k0_pay20 (F := F) (obPad o)) (k0_pay21 (prPad p)) (k0_pay22 (prPad p))
    | 4 => k0_pay1 lanes (k0_pay20 (F := F) (obPad o)) (k0_pay21 (prPad p)) (k0_pay22 (prPad p)) k0_pay29
    | 5 => k0_pay2 lanes (k0_pay20 (F := F) (obPad o)) (k0_pay21 (prPad p)) (k0_pay22 (prPad p))) (ix1 0)

/-- The six rows of the launch's result, from the states, the observation counts and the probabilities. -/
def rowsOf (s : S2097152.Idx → BitVec 32) (o : S6.Idx → BitVec 32) (p : S3.Idx → F .f32) : S6x2097152.Idx → F .f32 :=
  fun x => cell (aVal p) nVal (rVal o p (x 0)) (s (ix1 (x 1)))

end Value

/-! ## What the handshakes carry -/

variable (m : (ℓ : Loc nD τ sig) → Buf (Elt F) ℓ)

/-- The share of the tables that SparseCore `c` gets, -/
abbrev qC (c : Fin 2) : PosShare TreeShare := Transfers.shareTok fullShare 2 c
/-- and the share of its subcore `s`. -/
abbrev qT (c : Fin 2) (s : Fin 16) : PosShare TreeShare := Transfers.shareTok (qC c) 16 s

abbrev sPts (d : Dev nD) (n : Fin 512) : sProp 𝕄 := sLoc d ↦[sSet n]{fullShare} m (sLoc d)
abbrev wPts (d : Dev nD) (n : Fin 512) (f : Buf (Elt F) (wLoc d)) : sProp 𝕄 := wLoc d ↦[wSet n]{fullShare} f
abbrev oPts (d : Dev nD) (q : PosShare TreeShare) : sProp 𝕄 := oLoc d ↦{q} m (oLoc d)
abbrev pPts (d : Dev nD) (q : PosShare TreeShare) : sProp 𝕄 := pLoc d ↦{q} m (pLoc d)

/-- A tile's sixteen chunks of the states; -/
abbrev sTile (d : Dev nD) (L : grid0.Coords) : sProp 𝕄 :=
  bigSep Finset.univ fun t : Fin 8 => iprop(sPts m d (ch L t 0) ∗ sPts m d (ch L t 1))
/-- of the result, at the values `f`. -/
abbrev wTile (d : Dev nD) (L : grid0.Coords) (f : Buf (Elt F) (wLoc d)) : sProp 𝕄 :=
  bigSep Finset.univ fun t : Fin 8 => iprop(wPts d (ch L t 0) f ∗ wPts d (ch L t 1) f)

/-- What the subcore at `L` holds while it runs, the result's chunks at `f`. -/
abbrev tileHas (d : Dev nD) (L : grid0.Coords) (f : Buf (Elt F) (wLoc d)) : sProp 𝕄 :=
  iprop(sTile m d L ∗ oPts m d (qT (L 0) (L 1)) ∗ pPts m d (qT (L 0) (L 1)) ∗ wTile d L f)
/-- What SparseCore `c` holds while it runs. -/
abbrev coreHas (d : Dev nD) (c : Fin 2) (f : Buf (Elt F) (wLoc d)) : sProp 𝕄 :=
  iprop((bigSep Finset.univ fun s : Fin 16 => sTile m d (coordsV c s)) ∗ oPts m d (qC c) ∗ pPts m d (qC c)
    ∗ bigSep Finset.univ fun s : Fin 16 => wTile d (coordsV c s) f)

variable [FloatOps F]

/-- The result's final contents. -/
abbrev gBuf (d : Dev nD) : Buf (Elt F) (wLoc d) := rowsOf (F := F) (m (sLoc d)) (m (oLoc d)) (m (pLoc d))

/-- The launch hands each SparseCore its subcores' chunks and a share of the two tables, each subcore its own; they come
    back with the result's chunks at their final contents. -/
def P : (K (F := F)).Pay (nD := nD) (Val := Elt F) (Name := ℕ) (U := UU) where
  st := fun q d c => match q with | 0 => coreHas m d (Fin.cast nCore_zero c) (m (wLoc d))
  dn := fun q d c => match q with | 0 => coreHas m d (Fin.cast nCore_zero c) (gBuf m d)
  go := fun q d c i => match q with | 0 => tileHas m d (coordsV (Fin.cast nCore_zero c) (Fin.cast nSub_zero i)) (m (wLoc d))
  td := fun q d c i => match q with | 0 => tileHas m d (coordsV (Fin.cast nCore_zero c) (Fin.cast nSub_zero i)) (gBuf m d)
  x := fun _ _ => iprop(emp)

instance P_storable : (P (F := F) m).IsStorable where
  st q d c := match q with
    | 0 => (inferInstance : BI.Storable (upEmb : UEmb _ 𝕄) (coreHas m d (Fin.cast nCore_zero c) (m (wLoc d))))
  dn q d c := match q with
    | 0 => (inferInstance : BI.Storable (upEmb : UEmb _ 𝕄) (coreHas m d (Fin.cast nCore_zero c) (gBuf m d)))
  go q d c i := match q with
    | 0 => (inferInstance : BI.Storable (upEmb : UEmb _ 𝕄) (tileHas m d (coordsV (Fin.cast nCore_zero c) (Fin.cast nSub_zero i)) (m (wLoc d))))
  td q d c i := match q with
    | 0 => (inferInstance : BI.Storable (upEmb : UEmb _ 𝕄) (tileHas m d (coordsV (Fin.cast nCore_zero c) (Fin.cast nSub_zero i)) (gBuf m d)))

end Cert.Proof.Tiles

end
-- ==== Proof.Inner.lean ====
/-
  A half trip's compute loop: 256 groups of sixteen states, each turned into sixteen columns of the six result rows.
-/
module

public import proofs.«01_k».proof.Proof.Setup

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The rows that a chunk of states `st` asks for, `a`, `n`, `r` being the values at state 1, at state 0 and, row by row,
    at state 2. -/
def rowsChunk (a n : F .f32) (r : Fin 6 → F .f32) (st : S4096.Idx → BitVec 32) : S6x4096.Idx → F .f32 :=
  fun x => cell a n (r (x 0)) (st (ix1 (x 1)))

omit [FloatOps F] in
/-- Sixteen lanes cast to one row of sixteen: lane `x 1`. -/
theorem cast_row {α : Type} (v : S16.Idx → α) (x : S1x16.Idx) : shapeCast S1x16 v shapeCasts_S16_S1x16 x = v (ix1 (x 1)) := by
  unfold shapeCast
  congr 1
  refine Shape.reshapeEquiv_eq_of_rowMajor _ ?_
  rw [Shape.rowMajor_val_one, Shape.rowMajor_val_two]
  have h0 : (x 0).val < 1 := (x 0).isLt
  show (x 1).val = (x 0).val * 16 + (x 1).val
  omega

omit [FloatOps F] in
/-- A load of sixteen states at group `g` of a state buffer reads states `16 g …`. -/
theorem load_group {v : View sig Kind.scVector Space.vmem S4096 EltTy.i32} (st : v.ty.Contents (Elt F)) (off : Fin 1 → ℕ) (g : ℕ) (hoff : off = ![16 * g])
    (inb : ∀ a, off a + S16.size a ≤ S4096.size a) (l : Fin 16) (y : Fin 4096) (hy : y.val = 16 * g + l.val) :
    v.readAt (Elt F) (Rect.unit (s := S4096) off S16.size inb).toLoadRect st (ix1 l) = v.read (Elt F) st (ix1 y) := by
  subst hoff
  rw [View.readAt_apply]
  congr 1
  funext b
  match b with
  | 0 => exact Fin.ext (by show 16 * g + 1 * l.val = y.val; omega)

omit [FloatOps F] in
/-- Six stores of one row of sixteen each, side by side in group `g`'s columns, extend what holds of the columns before
    to the columns up to the group's end. -/
theorem six_stores {v : View sig Kind.scVector Space.vmem S6x4096 EltTy.f32} (f : v.ty.Contents (Elt F)) (G : S6x4096.Idx → F .f32) (g : ℕ)
    (off : Fin 6 → Fin 2 → ℕ) (hoff : ∀ j, off j = ![j.val, 16 * g]) (inb : ∀ j a, off j a + S1x16.size a ≤ S6x4096.size a)
    (w : Fin 6 → S1x16.Idx → F .f32) (hw : ∀ j x (y : S6x4096.Idx), y 0 = j → (y 1).val = 16 * g + (x 1).val → w j x = G y)
    (hf : ∀ y : S6x4096.Idx, (y 1).val < 16 * g → v.read (Elt F) f y = G y) (y : S6x4096.Idx) (hy : (y 1).val < 16 * (g + 1)) :
    v.read (Elt F) (v.writes (Elt F) f
      [⟨Rect.unit (s := S6x4096) (off 5) S1x16.size (inb 5), w 5⟩, ⟨Rect.unit (s := S6x4096) (off 4) S1x16.size (inb 4), w 4⟩,
        ⟨Rect.unit (s := S6x4096) (off 3) S1x16.size (inb 3), w 3⟩, ⟨Rect.unit (s := S6x4096) (off 2) S1x16.size (inb 2), w 2⟩,
        ⟨Rect.unit (s := S6x4096) (off 1) S1x16.size (inb 1), w 1⟩, ⟨Rect.unit (s := S6x4096) (off 0) S1x16.size (inb 0), w 0⟩]) y = G y := by
  have hmem (j : Fin 6) : y ∈ (Rect.unit (s := S6x4096) (off j) S1x16.size (inb j)).set ↔ (y 0).val = j.val ∧ 16 * g ≤ (y 1).val := by
    rw [Rect.mem_set_unit, hoff j, Fin.forall_fin_two]
    show (j.val ≤ (y 0).val ∧ (y 0).val < j.val + 1) ∧ (16 * g ≤ (y 1).val ∧ (y 1).val < 16 * g + 16) ↔ _
    omega
  have hval (j : Fin 6) (x : S1x16.Idx) : w j x = G ((Rect.unit (s := S6x4096) (off j) S1x16.size (inb j)).emb x) := by
    have h0 : (x 0).val < 1 := (x 0).isLt
    refine hw j x _ (Fin.ext ?_) ?_
    · show off j 0 + 1 * (x 0).val = j.val
      rw [hoff j]; show j.val + 1 * (x 0).val = j.val; omega
    · show off j 1 + 1 * (x 1).val = _
      rw [hoff j]; show 16 * g + 1 * (x 1).val = _; omega
  by_cases hlt : (y 1).val < 16 * g
  · rw [View.read_writes_apply_of_forall_not_mem, hf y hlt]
    simp only [List.forall_mem_cons, List.not_mem_nil, false_imp_iff, implies_true, and_true]
    exact ⟨fun h => absurd ((hmem 5).1 h).2 (by omega), fun h => absurd ((hmem 4).1 h).2 (by omega), fun h => absurd ((hmem 3).1 h).2 (by omega),
      fun h => absurd ((hmem 2).1 h).2 (by omega), fun h => absurd ((hmem 1).1 h).2 (by omega), fun h => absurd ((hmem 0).1 h).2 (by omega)⟩
  · refine View.read_writes_apply_of_pieces v f G _ ?_ y ?_
    · simp only [List.forall_mem_cons, List.not_mem_nil, false_imp_iff, implies_true, and_true]
      exact ⟨hval 5, hval 4, hval 3, hval 2, hval 1, hval 0⟩
    · have hr : (y 0).val < 6 := (y 0).isLt
      simp only [List.exists_mem_cons_iff, List.not_mem_nil, false_and, exists_false, or_false, hmem]
      have hge : 16 * g ≤ (y 1).val := by omega
      simp only [hge, and_true]
      show (y 0).val = 5 ∨ (y 0).val = 4 ∨ (y 0).val = 3 ∨ (y 0).val = 2 ∨ (y 0).val = 1 ∨ (y 0).val = 0
      omega

/-- One row's store in a group: the row of cells. -/
theorem cell_row (v26 v27 vr : FVec F S16 .f32) (a n b : F .f32) (h26 : ∀ x, v26 x = a) (h27 : ∀ x, v27 x = n) (hr : ∀ x, vr x = b)
    (u : IVec S16 32) (x : S1x16.Idx) (s : BitVec 32) (hs : u (ix1 (x 1)) = s) :
    shapeCast S1x16 (select (cmpi .eq u (broadcast S16 2#32)) vr (select (cmpi .eq u (broadcast S16 0#32)) v27 v26)) shapeCasts_S16_S1x16 x
      = cell a n b s := by
  rw [cast_row]
  subst hs
  simp only [select, cmpi, broadcast, cell, h26, h27, hr]

section Step
variable (d : Dev nD) (L : grid0.Coords)

/-- What the first compute loop holds before group `k`: the state buffer, and the result buffer right up to the group. -/
abbrev invA (a n : F .f32) (r : Fin 6 → F .f32) (st : S4096.Idx → BitVec 32) (k : ℕ) (_ : Unit) : sProp 𝕄 :=
  iprop((stA.view.loc (V d (cV L) (jV L)) ↦{fullShare} (st : Buf (Elt F) (stA.view.loc (V d (cV L) (jV L)))))
    ∗ ∃ f : Buf (Elt F) (ouA.view.loc (V d (cV L) (jV L))), ⌜∀ x : S6x4096.Idx, (x 1).val < 16 * k → f x = rowsChunk a n r st x⌝
      ∗ ouA.view.loc (V d (cV L) (jV L)) ↦{fullShare} f)

set_option maxHeartbeats 1000000 in
/-- One group of the first compute loop. -/
theorem stepA (a n : F .f32) (r : Fin 6 → F .f32) (st : S4096.Idx → BitVec 32)
    (v2 : BitVec 32) (v26 v27 v37 v47 v57 v67 v77 v87 : FVec F S16 .f32) (c0 c1 : BitVec 32) (t : Fin k0_t1_loop.trips)
    (h26 : ∀ x, v26 x = a) (h27 : ∀ x, v27 x = n) (h37 : ∀ x, v37 x = r 0) (h47 : ∀ x, v47 x = r 1)
    (h57 : ∀ x, v57 x = r 2) (h67 : ∀ x, v67 x = r 3) (h77 : ∀ x, v77 x = r 4) (h87 : ∀ x, v87 x = r 5)
    (k : Fin k0_t2_loop.trips) (acc : Unit) :
    invA d L a n r st k.val acc ⊢ wp frame (wpE (defs₀ (F := F)) 𝒱₀ (V d (cV L) (jV L)) none) Set.univ
      (k0_t2_body L sM (Memref.isWhole_whole _) oM (Memref.isWhole_whole _) pM (Memref.isWhole_whole _) wM (Memref.isWhole_whole _)
        stA (Memref.isWhole_whole _) stB (Memref.isWhole_whole _) ouA (Memref.isWhole_whole _) ouB (Memref.isWhole_whole _)
        obM (Memref.isWhole_whole _) prM (Memref.isWhole_whole _) cc0_scratch6 cc0_scratch7 cc0_scratch8 cc0_scratch9 cc0_scoped0 cc0_scoped1
        v2 v26 v27 v37 v47 v57 v67 v77 v87 c0 c1 t k acc)
      (fun acc => invA d L a n r st (k.val + 1) acc) := by
  sl_respell [k0_t2_body]
  simp only [k0_part1_eq_skeleton]; unfold k0_part1_skel
  unfold invA
  iintro ⟨Hs, %f, %hf, Ho⟩
  sl_exec
  sl_step
  isplitl [Hs]; · iexact Hs
  iexists _
  isplitr; swap; · iexact Ho
  ipureintro
  refine six_stores (v := ouA.view) f (rowsChunk a n r st) k.val ![k0_off6 k, k0_off7 k, k0_off8 k, k0_off9 k, k0_off10 k, k0_off11 k]
    (fun j => match j with
      | 0 => k0_off6_eq k | 1 => k0_off7_eq k | 2 => k0_off8_eq k | 3 => k0_off9_eq k | 4 => k0_off10_eq k | 5 => k0_off11_eq k)
    (fun j => match j with
      | 0 => k0_off6_inb k | 1 => k0_off7_inb k | 2 => k0_off8_inb k | 3 => k0_off9_inb k | 4 => k0_off10_inb k | 5 => k0_off11_inb k)
    ![_, _, _, _, _, _] ?_ hf
  intro j x y hj hy
  have hl : stA.view.readAt (Elt F) (Rect.unit (s := S4096) (k0_off5 k) S16.size (k0_off5_inb k)).toLoadRect st (ix1 (x 1)) = st (ix1 (y 1)) :=
    load_group (v := stA.view) st _ k.val (k0_off5_eq k) _ _ _ hy
  have e : rowsChunk a n r st y = cell a n (r j) (st (ix1 (y 1))) := by rw [← hj]; rfl
  rw [e]
  clear e hj
  change Fin 6 at j
  match j with
  | 0 => exact cell_row _ _ _ _ _ _ h26 h27 h37 _ x _ hl
  | 1 => exact cell_row _ _ _ _ _ _ h26 h27 h47 _ x _ hl
  | 2 => exact cell_row _ _ _ _ _ _ h26 h27 h57 _ x _ hl
  | 3 => exact cell_row _ _ _ _ _ _ h26 h27 h67 _ x _ hl
  | 4 => exact cell_row _ _ _ _ _ _ h26 h27 h77 _ x _ hl
  | 5 => exact cell_row _ _ _ _ _ _ h26 h27 h87 _ x _ hl

/-- What the second compute loop holds before group `k`: the state buffer, and the result buffer right up to the group. -/
abbrev invB (a n : F .f32) (r : Fin 6 → F .f32) (st : S4096.Idx → BitVec 32) (k : ℕ) (_ : Unit) : sProp 𝕄 :=
  iprop((stB.view.loc (V d (cV L) (jV L)) ↦{fullShare} (st : Buf (Elt F) (stB.view.loc (V d (cV L) (jV L)))))
    ∗ ∃ f : Buf (Elt F) (ouB.view.loc (V d (cV L) (jV L))), ⌜∀ x : S6x4096.Idx, (x 1).val < 16 * k → f x = rowsChunk a n r st x⌝
      ∗ ouB.view.loc (V d (cV L) (jV L)) ↦{fullShare} f)

set_option maxHeartbeats 1000000 in
/-- One group of the second compute loop. -/
theorem stepB (a n : F .f32) (r : Fin 6 → F .f32) (st : S4096.Idx → BitVec 32)
    (v2 : BitVec 32) (v26 v27 v37 v47 v57 v67 v77 v87 : FVec F S16 .f32) (c0 c1 : BitVec 32) (t : Fin k0_t1_loop.trips)
    (h26 : ∀ x, v26 x = a) (h27 : ∀ x, v27 x = n) (h37 : ∀ x, v37 x = r 0) (h47 : ∀ x, v47 x = r 1)
    (h57 : ∀ x, v57 x = r 2) (h67 : ∀ x, v67 x = r 3) (h77 : ∀ x, v77 x = r 4) (h87 : ∀ x, v87 x = r 5)
    (k : Fin k0_t3_loop.trips) (acc : Unit) :
    invB d L a n r st k.val acc ⊢ wp frame (wpE (defs₀ (F := F)) 𝒱₀ (V d (cV L) (jV L)) none) Set.univ
      (k0_t3_body L sM (Memref.isWhole_whole _) oM (Memref.isWhole_whole _) pM (Memref.isWhole_whole _) wM (Memref.isWhole_whole _)
        stA (Memref.isWhole_whole _) stB (Memref.isWhole_whole _) ouA (Memref.isWhole_whole _) ouB (Memref.isWhole_whole _)
        obM (Memref.isWhole_whole _) prM (Memref.isWhole_whole _) cc0_scratch6 cc0_scratch7 cc0_scratch8 cc0_scratch9 cc0_scoped0 cc0_scoped1
        v2 v26 v27 v37 v47 v57 v67 v77 v87 c0 c1 t k acc)
      (fun acc => invB d L a n r st (k.val + 1) acc) := by
  sl_respell [k0_t3_body]
  simp only [k0_part2_eq_skeleton]; unfold k0_part2_skel
  unfold invB
  iintro ⟨Hs, %f, %hf, Ho⟩
  sl_exec
  sl_step
  isplitl [Hs]; · iexact Hs
  iexists _
  isplitr; swap; · iexact Ho
  ipureintro
  refine six_stores (v := ouB.view) f (rowsChunk a n r st) k.val ![k0_off17 k, k0_off18 k, k0_off19 k, k0_off20 k, k0_off21 k, k0_off22 k]
    (fun j => match j with
      | 0 => k0_off17_eq k | 1 => k0_off18_eq k | 2 => k0_off19_eq k | 3 => k0_off20_eq k | 4 => k0_off21_eq k | 5 => k0_off22_eq k)
    (fun j => match j with
      | 0 => k0_off17_inb k | 1 => k0_off18_inb k | 2 => k0_off19_inb k | 3 => k0_off20_inb k | 4 => k0_off21_inb k | 5 => k0_off22_inb k)
    ![_, _, _, _, _, _] ?_ hf
  intro j x y hj hy
  have hl : stB.view.readAt (Elt F) (Rect.unit (s := S4096) (k0_off16 k) S16.size (k0_off16_inb k)).toLoadRect st (ix1 (x 1)) = st (ix1 (y 1)) :=
    load_group (v := stB.view) st _ k.val (k0_off16_eq k) _ _ _ hy
  have e : rowsChunk a n r st y = cell a n (r j) (st (ix1 (y 1))) := by rw [← hj]; rfl
  rw [e]
  clear e hj
  change Fin 6 at j
  match j with
  | 0 => exact cell_row _ _ _ _ _ _ h26 h27 h37 _ x _ hl
  | 1 => exact cell_row _ _ _ _ _ _ h26 h27 h47 _ x _ hl
  | 2 => exact cell_row _ _ _ _ _ _ h26 h27 h57 _ x _ hl
  | 3 => exact cell_row _ _ _ _ _ _ h26 h27 h67 _ x _ hl
  | 4 => exact cell_row _ _ _ _ _ _ h26 h27 h77 _ x _ hl
  | 5 => exact cell_row _ _ _ _ _ _ h26 h27 h87 _ x _ hl

end Step

end Cert.Proof.Tiles

end
-- ==== Proof.Chunks.lean ====
/-
  The chunks as the tile's program spells them: the slices at the printed offsets are the chunks of the set-up, what they
  read, and what a transfer to one leaves there.
-/
module

public import proofs.«01_k».proof.Proof.Inner

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- 4096 states from the one at `off`; -/
abbrev sSl (off : Fin 1 → ℕ) (inb : ∀ a, off a + S4096.size a ≤ S2097152.size a) : Memref sig .scVector .hbm S4096 .i32 :=
  sM.slice (Rect.unit (s := S2097152) off S4096.size inb) (fun _ => rfl)
/-- six rows of 4096 results from column `off 1`. -/
abbrev wSl (off : Fin 2 → ℕ) (inb : ∀ a, off a + S6x4096.size a ≤ S6x2097152.size a) : Memref sig .scVector .hbm S6x4096 .f32 :=
  wM.slice (Rect.unit (s := S6x2097152) off S6x4096.size inb) (fun _ => rfl)

/-- Chunk `n` of the states. -/
def stChunk (s : S2097152.Idx → BitVec 32) (n : Fin 512) : S4096.Idx → BitVec 32 :=
  fun x => s (ix1 ⟨4096 * n.val + (x 0).val, by have h : (x 0).val < 4096 := (x 0).isLt; omega⟩)

theorem set_sSl (off : Fin 1 → ℕ) (inb : ∀ a, off a + S4096.size a ≤ S2097152.size a) (n : Fin 512) (hoff : off = ![4096 * n.val]) :
    (sSl off inb).view.set = sSet n := by
  subst hoff
  show ((View.whole (main_arg0_scv : Ref sig .scVector)).slice _).set = _
  rw [View.set_slice]
  refine Finset.map_refl.trans (congrArg (fun r : Rect S2097152 => r.set) ?_)
  unfold Rect.part Rect.block
  congr 1 <;> funext a
  · match a with
    | 0 => simp [Shape.partIx, Shape.partSize, Nat.mul_comm]
  · match a with
    | 0 => simp [Shape.partSize]

theorem set_wSl (off : Fin 2 → ℕ) (inb : ∀ a, off a + S6x4096.size a ≤ S6x2097152.size a) (n : Fin 512) (hoff : off = ![0, 4096 * n.val]) :
    (wSl off inb).view.set = wSet n := by
  subst hoff
  show ((View.whole (main_v0_scv : Ref sig .scVector)).slice _).set = _
  rw [View.set_slice]
  refine Finset.map_refl.trans (congrArg (fun r : Rect S6x2097152 => r.set) ?_)
  unfold Rect.part Rect.block
  congr 1 <;> funext a
  · match a with
    | 0 => simp [Shape.partIx, Shape.partSize]
    | 1 => simp [Shape.partIx, Shape.partSize, Nat.mul_comm]
  · match a with
    | 0 => simp [Shape.partSize]
    | 1 => simp [Shape.partSize]

theorem read_sSl (off : Fin 1 → ℕ) (inb : ∀ a, off a + S4096.size a ≤ S2097152.size a) (n : Fin 512) (hoff : off = ![4096 * n.val])
    (s : S2097152.Idx → BitVec 32) : (sSl off inb).view.read (Elt F) s = stChunk s n := by
  subst hoff
  funext x
  refine (View.read_apply _ _).trans ((cast_eq _ _).trans ?_)
  unfold stChunk
  congr 1
  funext a
  match a with
  | 0 => exact Fin.ext (by show 4096 * n.val + 1 * (x 0).val = 4096 * n.val + (x 0).val; omega)

section Pts
variable (d : Dev nD) (L : grid0.Coords)

theorem pts_sSl (off : Fin 1 → ℕ) (inb : ∀ a, off a + S4096.size a ≤ S2097152.size a) (n : Fin 512) (hoff : off = ![4096 * n.val])
    (q : PosShare TreeShare) (f : Buf (Elt F) (sLoc d)) :
    ((sSl off inb).view.loc (V d (cV L) (jV L)) ↦[(sSl off inb).view.set]{q} f : sProp 𝕄) = sLoc d ↦[sSet n]{q} f := by
  rw [set_sSl off inb n hoff]
theorem pts_wSl (off : Fin 2 → ℕ) (inb : ∀ a, off a + S6x4096.size a ≤ S6x2097152.size a) (n : Fin 512) (hoff : off = ![0, 4096 * n.val])
    (q : PosShare TreeShare) (f : Buf (Elt F) (wLoc d)) :
    ((wSl off inb).view.loc (V d (cV L) (jV L)) ↦[(wSl off inb).view.set]{q} f : sProp 𝕄) = wLoc d ↦[wSet n]{q} f := by
  rw [set_wSl off inb n hoff]

variable [FloatOps F]

/-- A chunk of the result that a transfer wrote with the rows of the states' chunk is at its final contents. -/
theorem out_done (m : (ℓ : Loc nD τ sig) → Buf (Elt F) ℓ) (off : Fin 2 → ℕ) (inb : ∀ a, off a + S6x4096.size a ≤ S6x2097152.size a) (n : Fin 512)
    (hoff : off = ![0, 4096 * n.val]) (fd : Buf (Elt F) (wLoc d)) (w : S6x4096.Idx → F .f32)
    (hw : ∀ x, w x = rowsChunk (aVal (m (pLoc d))) nVal (rVal (F := F) (m (oLoc d)) (m (pLoc d))) (stChunk (m (sLoc d)) n) x) :
    ((wSl off inb).view.loc (V d (cV L) (jV L)) ↦[(wSl off inb).view.set]{fullShare} (wSl off inb).view.write (Elt F) fd w Finset.univ : sProp 𝕄)
      = wPts d n (gBuf m d) := by
  rw [pts_wSl d L off inb n hoff]
  refine pointsTo_congr fun i hi => ?_
  rw [← set_wSl off inb n hoff] at hi
  obtain ⟨x, -, rfl⟩ := Finset.mem_map.mp hi
  rw [View.write_emb_of_mem _ _ (Finset.mem_univ _)]
  refine (cast_eq _ _).trans ?_
  rw [hw x]
  subst hoff
  unfold gBuf rowsOf rowsChunk stChunk
  congr 1
  · congr 1
    exact Fin.ext (by show (x 0).val = 0 + 1 * (x 0).val; omega)
  · congr 2
    exact Fin.ext (by show 4096 * n.val + (x 1).val = 4096 * n.val + 1 * (x 1).val; omega)

end Pts

end Cert.Proof.Tiles

end
-- ==== Proof.Outer.lean ====
/-
  One trip of a tile's outer loop: two chunks of the states arrive, their rows are computed and sent, the next chunks are
  fetched.
-/
module

public import proofs.«01_k».proof.Proof.Chunks

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The conditions and the offsets -/

theorem trips8 : k0_t1_loop.trips = 8 := by decide +kernel
theorem cond1_iff (t : Fin k0_t1_loop.trips) : k0_cond1 t = 1#1 ↔ 1 ≤ t.val := by revert t; decide +kernel
theorem cond2_iff (t : Fin k0_t1_loop.trips) : k0_cond2 t = 1#1 ↔ t.val < 7 := by revert t; decide +kernel
theorem cond3_iff (t : Fin k0_t1_loop.trips) : k0_cond3 t = 1#1 ↔ 1 ≤ t.val := by revert t; decide +kernel
theorem cond4_iff (t : Fin k0_t1_loop.trips) : k0_cond4 t = 1#1 ↔ t.val < 7 := by revert t; decide +kernel

section Trip
variable (d : Dev nD) (L : grid0.Coords) (m : (ℓ : Loc nD τ sig) → Buf (Elt F) ℓ)

/-- The first buffer's fetch of chunk `n`, on its way; -/
abbrev flA (n : Fin 512) : sProp 𝕄 :=
  Transfers.Flight countersEmb (V d (cV L) (jV L)) (.dma cc0_scratch6.sem) (default : HIx 1) 131072
    iprop((stA.view.loc (V d (cV L) (jV L)) ↦{fullShare} (stChunk (m (sLoc d)) n : Buf (Elt F) (stA.view.loc (V d (cV L) (jV L))))) ∗ sPts m d n)
/-- the second buffer's. -/
abbrev flB (n : Fin 512) : sProp 𝕄 :=
  Transfers.Flight countersEmb (V d (cV L) (jV L)) (.dma cc0_scratch7.sem) (default : HIx 1) 131072
    iprop((stB.view.loc (V d (cV L) (jV L)) ↦{fullShare} (stChunk (m (sLoc d)) n : Buf (Elt F) (stB.view.loc (V d (cV L) (jV L))))) ∗ sPts m d n)

variable [FloatOps F]

/-- The rows' values where the state is 2. -/
abbrev rr (j : Fin 6) : F .f32 := rVal (F := F) (m (oLoc d)) (m (pLoc d)) j

/-- The first result buffer's copy into chunk `n` of the result, on its way; -/
abbrev foA (n : Fin 512) : sProp 𝕄 :=
  iprop(∃ f : Buf (Elt F) (ouA.view.loc (V d (cV L) (jV L))),
    Transfers.Flight countersEmb (V d (cV L) (jV L)) (.dma cc0_scratch8.sem) (default : HIx 1) 786432
      iprop(wPts d n (gBuf m d) ∗ ouA.view.loc (V d (cV L) (jV L)) ↦{fullShare} f))
/-- the second's. -/
abbrev foB (n : Fin 512) : sProp 𝕄 :=
  iprop(∃ f : Buf (Elt F) (ouB.view.loc (V d (cV L) (jV L))),
    Transfers.Flight countersEmb (V d (cV L) (jV L)) (.dma cc0_scratch9.sem) (default : HIx 1) 786432
      iprop(wPts d n (gBuf m d) ∗ ouB.view.loc (V d (cV L) (jV L)) ↦{fullShare} f))

/-! ## The flights as the invariant states them -/

section Intro
omit [FloatOps F]
theorem flA_intro (off : Fin 1 → ℕ) (inb : ∀ a, off a + S4096.size a ≤ S2097152.size a) (n : Fin 512) (hoff : off = ![4096 * n.val])
    (fd : Buf (Elt F) (stA.view.loc (V d (cV L) (jV L)))) (p : S4096.Idx → BitVec 32) (hp : p = (sSl off inb).view.read (Elt F) (m (sLoc d))) :
    (Transfers.Flight countersEmb (V d (cV L) (jV L)) (.dma cc0_scratch6.sem) (default : HIx 1) 131072
      iprop((stA.view.loc (V d (cV L) (jV L)) ↦{fullShare} stA.view.write (Elt F) fd p Finset.univ)
        ∗ ((sSl off inb).view.loc (V d (cV L) (jV L)) ↦[(sSl off inb).view.set]{fullShare} m (sLoc d))) : sProp 𝕄) ⊢ flA d L m n :=
  Transfers.Flight_mono countersEmb _ (by
    subst hp
    rw [pts_sSl d L off inb n hoff, read_sSl off inb n hoff, View.write_whole_univ])
theorem flB_intro (off : Fin 1 → ℕ) (inb : ∀ a, off a + S4096.size a ≤ S2097152.size a) (n : Fin 512) (hoff : off = ![4096 * n.val])
    (fd : Buf (Elt F) (stB.view.loc (V d (cV L) (jV L)))) (p : S4096.Idx → BitVec 32) (hp : p = (sSl off inb).view.read (Elt F) (m (sLoc d))) :
    (Transfers.Flight countersEmb (V d (cV L) (jV L)) (.dma cc0_scratch7.sem) (default : HIx 1) 131072
      iprop((stB.view.loc (V d (cV L) (jV L)) ↦{fullShare} stB.view.write (Elt F) fd p Finset.univ)
        ∗ ((sSl off inb).view.loc (V d (cV L) (jV L)) ↦[(sSl off inb).view.set]{fullShare} m (sLoc d))) : sProp 𝕄) ⊢ flB d L m n :=
  Transfers.Flight_mono countersEmb _ (by
    subst hp
    rw [pts_sSl d L off inb n hoff, read_sSl off inb n hoff, View.write_whole_univ])
end Intro

theorem foA_intro (off : Fin 2 → ℕ) (inb : ∀ a, off a + S6x4096.size a ≤ S6x2097152.size a) (n : Fin 512)
    (hoff : off = ![0, 4096 * n.val]) (fd : Buf (Elt F) (wLoc d)) (g : Buf (Elt F) (ouA.view.loc (V d (cV L) (jV L)))) (p : S6x4096.Idx → F .f32)
    (hp : p = ouA.view.read (Elt F) g)
    (hg : ∀ x : S6x4096.Idx, (x 1).val < 16 * 256 → g x = rowsChunk (aVal (m (pLoc d))) nVal (rr d m) (stChunk (m (sLoc d)) n) x) :
    (Transfers.Flight countersEmb (V d (cV L) (jV L)) (.dma cc0_scratch8.sem) (default : HIx 1) 786432
      iprop(((wSl off inb).view.loc (V d (cV L) (jV L)) ↦[(wSl off inb).view.set]{fullShare}
          (wSl off inb).view.writes (Elt F) fd [⟨Rect.whole S6x4096, p⟩])
        ∗ (ouA.view.loc (V d (cV L) (jV L)) ↦[ouA.view.set]{fullShare} g)) : sProp 𝕄) ⊢ foA d L m n := by
  iintro H
  iexists g
  iapply (Transfers.Flight_mono countersEmb _ (D' := iprop(wPts d n (gBuf m d) ∗ ouA.view.loc (V d (cV L) (jV L)) ↦{fullShare} g)) (by
    rw [← out_done d L m off inb n hoff fd p (fun x => by
      subst hp
      rw [View.read_whole]
      exact hg x (show (x 1).val < 4096 from (x 1).isLt)), View.set_whole]
    exact Entails.of_eq (by rw [← View.write_univ_eq_writes_whole (wSl off inb).view fd [] p]; rfl))) $$ H
theorem foB_intro (off : Fin 2 → ℕ) (inb : ∀ a, off a + S6x4096.size a ≤ S6x2097152.size a) (n : Fin 512)
    (hoff : off = ![0, 4096 * n.val]) (fd : Buf (Elt F) (wLoc d)) (g : Buf (Elt F) (ouB.view.loc (V d (cV L) (jV L)))) (p : S6x4096.Idx → F .f32)
    (hp : p = ouB.view.read (Elt F) g)
    (hg : ∀ x : S6x4096.Idx, (x 1).val < 16 * 256 → g x = rowsChunk (aVal (m (pLoc d))) nVal (rr d m) (stChunk (m (sLoc d)) n) x) :
    (Transfers.Flight countersEmb (V d (cV L) (jV L)) (.dma cc0_scratch9.sem) (default : HIx 1) 786432
      iprop(((wSl off inb).view.loc (V d (cV L) (jV L)) ↦[(wSl off inb).view.set]{fullShare}
          (wSl off inb).view.writes (Elt F) fd [⟨Rect.whole S6x4096, p⟩])
        ∗ (ouB.view.loc (V d (cV L) (jV L)) ↦[ouB.view.set]{fullShare} g)) : sProp 𝕄) ⊢ foB d L m n := by
  iintro H
  iexists g
  iapply (Transfers.Flight_mono countersEmb _ (D' := iprop(wPts d n (gBuf m d) ∗ ouB.view.loc (V d (cV L) (jV L)) ↦{fullShare} g)) (by
    rw [← out_done d L m off inb n hoff fd p (fun x => by
      subst hp
      rw [View.read_whole]
      exact hg x (show (x 1).val < 4096 from (x 1).isLt)), View.set_whole]
    exact Entails.of_eq (by rw [← View.write_univ_eq_writes_whole (wSl off inb).view fd [] p]; rfl))) $$ H

/-- What the tile owes, with the waits done so far recorded. -/
abbrev owing (O : CellTallies nD τ sig (HIx 1)) (W : Waits sig (HIx 1)) : sProp 𝕄 :=
  iprop(∃ W', ⌜∀ p ∈ W', p ∈ W ∨ p.2 = none⌝ ∗ owes (V d (cV L) (jV L)) O W')

omit [FloatOps F] in
theorem rec_insert {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with h' | h'
  · exact .inr (by rw [h']; rfl)
  · exact h p h'

/-- The first state buffer idle; -/
abbrev idA : sProp 𝕄 := iprop((∃ f : Buf (Elt F) (stA.view.loc (V d (cV L) (jV L))), stA.view.loc (V d (cV L) (jV L)) ↦{fullShare} f)
  ∗ semVal ((V d (cV L) (jV L) : Thread nD τ), .dma cc0_scratch6.sem) 0)
/-- the second's; -/
abbrev idB : sProp 𝕄 := iprop((∃ f : Buf (Elt F) (stB.view.loc (V d (cV L) (jV L))), stB.view.loc (V d (cV L) (jV L)) ↦{fullShare} f)
  ∗ semVal ((V d (cV L) (jV L) : Thread nD τ), .dma cc0_scratch7.sem) 0)
/-- the first result buffer idle, -/
abbrev ioA : sProp 𝕄 := iprop((∃ f : Buf (Elt F) (ouA.view.loc (V d (cV L) (jV L))), ouA.view.loc (V d (cV L) (jV L)) ↦{fullShare} f)
  ∗ semVal ((V d (cV L) (jV L) : Thread nD τ), .dma cc0_scratch8.sem) 0)
/-- and the second. -/
abbrev ioB : sProp 𝕄 := iprop((∃ f : Buf (Elt F) (ouB.view.loc (V d (cV L) (jV L))), ouB.view.loc (V d (cV L) (jV L)) ↦{fullShare} f)
  ∗ semVal ((V d (cV L) (jV L) : Thread nD τ), .dma cc0_scratch9.sem) 0)

set_option maxHeartbeats 2000000 in
/-- A trip with trips before and after it. -/
theorem tripMid (v2 : BitVec 32) (v8 : IVec S16 32) (v19 : Vec F S16 .i32) (v23 v25 : F .f32) (v26 v27 v37 v47 v57 v67 : FVec F S16 .f32) (v68 : IVec S16 32)
    (h26 : ∀ x, v26 x = aVal (m (pLoc d))) (h27 : ∀ x, v27 x = nVal) (h37 : ∀ x, v37 x = rr d m 0) (h47 : ∀ x, v47 x = rr d m 1)
    (h57 : ∀ x, v57 x = rr d m 2) (h67 : ∀ x, v67 x = rr d m 3) (h77 : ∀ x, k0_pay1 v8 v19 v23 v25 v68 x = rr d m 4) (h87 : ∀ x, k0_pay2 v8 v19 v23 v25 x = rr d m 5)
    (t : Fin k0_t1_loop.trips) (h1 : k0_cond1 t = 1#1) (h2 : k0_cond2 t = 1#1) (h3 : k0_cond3 t = 1#1) (h4 : k0_cond4 t = 1#1) (acc : Unit)
    (pA pB cA cB nA nB : Fin 512) (O : CellTallies nD τ sig (HIx 1)) (W : Waits sig (HIx 1))
    (o12 : k0_off12 L t = ![4096 * nA.val]) (o23 : k0_off23 L t = ![4096 * nB.val])
    (o13 : k0_off13 L t = ![0, 4096 * cA.val]) (o24 : k0_off24 L t = ![0, 4096 * cB.val]) :
    iprop(Transfers.MayWaits (V d (cV L) (jV L)) (default : HIx 1) O ∗ flA d L m cA ∗ flB d L m cB ∗ foA d L m pA ∗ foB d L m pB
        ∗ sPts m d nA ∗ sPts m d nB ∗ wPts d cA (m (wLoc d)) ∗ wPts d cB (m (wLoc d)) ∗ owing d L O W)
      ⊢ wp frame (wpE (defs₀ (F := F)) 𝒱₀ (V d (cV L) (jV L)) none) Set.univ
      (k0_t1_body L sM (Memref.isWhole_whole _) oM (Memref.isWhole_whole _) pM (Memref.isWhole_whole _) wM (Memref.isWhole_whole _)
        stA (Memref.isWhole_whole _) stB (Memref.isWhole_whole _) ouA (Memref.isWhole_whole _) ouB (Memref.isWhole_whole _)
        obM (Memref.isWhole_whole _) prM (Memref.isWhole_whole _) cc0_scratch6 cc0_scratch7 cc0_scratch8 cc0_scratch9 cc0_scoped0 cc0_scoped1
        v2 v8 v19 v23 v25 v26 v27 v37 v47 v57 v67 v68 t acc)
      (fun _ => iprop(flA d L m nA ∗ flB d L m nB ∗ foA d L m cA ∗ foB d L m cB
        ∗ sPts m d cA ∗ sPts m d cB ∗ wPts d pA (gBuf m d) ∗ wPts d pB (gBuf m d) ∗ owing d L O W)) := by
  sl_respell [k0_t1_body]
  simp only [k0_part3_eq_skeleton]; unfold k0_part3_skel
  iintro ⟨#Hmw, HiA, HiB, ⟨%fA, HoA⟩, ⟨%fB, HoB⟩, HsA, HsB, HwA, HwB, %W₀, %hW₀, HO⟩
  ihave HsA' := (Entails.of_eq (pts_sSl d L _ (k0_off12_inb L t h2) nA o12 _ _).symm) $$ HsA
  ihave HsB' := (Entails.of_eq (pts_sSl d L _ (k0_off23_inb L t h4) nB o23 _ _).symm) $$ HsB
  ihave HwA' := (Entails.of_eq (pts_wSl d L _ (k0_off13_inb L t) cA o13 _ _).symm) $$ HwA
  ihave HwB' := (Entails.of_eq (pts_wSl d L _ (k0_off24_inb L t) cB o24 _ _).symm) $$ HwB
  sl_exec
  rw [Prog.bind_assoc]
  sl_for (invA d L (aVal (m (pLoc d))) nVal (rr d m) (stChunk (m (sLoc d)) cA)) $$ [HiA_dst HoA_src]
  · intro k acc; exact stepA d L _ _ _ _ v2 v26 v27 v37 v47 v57 v67 _ _ _ _ t h26 h27 h37 h47 h57 h67 h77 h87 k acc
  · isplitl [HiA_dst]; · iexact HiA_dst
    iexists _; isplitr; swap; · iexact HoA_src
    ipureintro; intro x hx; exact absurd hx (by omega)
  iintro %acc ⟨HiA_dst, %gA, %hgA, HoA_src⟩
  sl_exec
  rw [Prog.bind_assoc]
  sl_for (invB d L (aVal (m (pLoc d))) nVal (rr d m) (stChunk (m (sLoc d)) cB)) $$ [HiB_dst HoB_src]
  · intro k acc; exact stepB d L _ _ _ _ v2 v26 v27 v37 v47 v57 v67 _ _ _ _ t h26 h27 h37 h47 h57 h67 h77 h87 k acc
  · isplitl [HiB_dst]; · iexact HiB_dst
    iexists _; isplitr; swap; · iexact HoB_src
    ipureintro; intro x hx; exact absurd hx (by omega)
  iintro %acc ⟨HiB_dst, %gB, %hgB, HoB_src⟩
  sl_exec
  sl_step
  isplitl [HiA]; · iapply (flA_intro d L m _ (k0_off12_inb L t h2) nA o12 _ _ rfl); iexact HiA
  isplitl [HiB]; · iapply (flB_intro d L m _ (k0_off23_inb L t h4) nB o23 _ _ rfl); iexact HiB
  isplitl [HoA]; · iapply (foA_intro d L m _ (k0_off13_inb L t) cA o13 _ gA _ rfl hgA); iexact HoA
  isplitl [HoB]; · iapply (foB_intro d L m _ (k0_off24_inb L t) cB o24 _ gB _ rfl hgB); iexact HoB
  isplitl [HiA_src]; · iexact HiA_src
  isplitl [HiB_src]; · iexact HiB_src
  isplitl [HoA_dst]; · iexact HoA_dst
  isplitl [HoB_dst]; · iexact HoB_dst
  iexists _; isplitr; swap; · iexact HO
  ipureintro; exact rec_insert (rec_insert (rec_insert (rec_insert hW₀ _) _) _) _

set_option maxHeartbeats 2000000 in
/-- The first trip. -/
theorem tripFirst (v2 : BitVec 32) (v8 : IVec S16 32) (v19 : Vec F S16 .i32) (v23 v25 : F .f32) (v26 v27 v37 v47 v57 v67 : FVec F S16 .f32) (v68 : IVec S16 32)
    (h26 : ∀ x, v26 x = aVal (m (pLoc d))) (h27 : ∀ x, v27 x = nVal) (h37 : ∀ x, v37 x = rr d m 0) (h47 : ∀ x, v47 x = rr d m 1)
    (h57 : ∀ x, v57 x = rr d m 2) (h67 : ∀ x, v67 x = rr d m 3) (h77 : ∀ x, k0_pay1 v8 v19 v23 v25 v68 x = rr d m 4) (h87 : ∀ x, k0_pay2 v8 v19 v23 v25 x = rr d m 5)
    (t : Fin k0_t1_loop.trips) (h1 : ¬ k0_cond1 t = 1#1) (h2 : k0_cond2 t = 1#1) (h3 : ¬ k0_cond3 t = 1#1) (h4 : k0_cond4 t = 1#1) (acc : Unit)
    (cA cB nA nB : Fin 512) (O : CellTallies nD τ sig (HIx 1)) (W : Waits sig (HIx 1))
    (o12 : k0_off12 L t = ![4096 * nA.val]) (o23 : k0_off23 L t = ![4096 * nB.val])
    (o13 : k0_off13 L t = ![0, 4096 * cA.val]) (o24 : k0_off24 L t = ![0, 4096 * cB.val]) :
    iprop(Transfers.MayWaits (V d (cV L) (jV L)) (default : HIx 1) O ∗ flA d L m cA ∗ flB d L m cB ∗ ioA d L ∗ ioB d L
        ∗ sPts m d nA ∗ sPts m d nB ∗ wPts d cA (m (wLoc d)) ∗ wPts d cB (m (wLoc d)) ∗ owing d L O W)
      ⊢ wp frame (wpE (defs₀ (F := F)) 𝒱₀ (V d (cV L) (jV L)) none) Set.univ
      (k0_t1_body L sM (Memref.isWhole_whole _) oM (Memref.isWhole_whole _) pM (Memref.isWhole_whole _) wM (Memref.isWhole_whole _)
        stA (Memref.isWhole_whole _) stB (Memref.isWhole_whole _) ouA (Memref.isWhole_whole _) ouB (Memref.isWhole_whole _)
        obM (Memref.isWhole_whole _) prM (Memref.isWhole_whole _) cc0_scratch6 cc0_scratch7 cc0_scratch8 cc0_scratch9 cc0_scoped0 cc0_scoped1
        v2 v8 v19 v23 v25 v26 v27 v37 v47 v57 v67 v68 t acc)
      (fun _ => iprop(flA d L m nA ∗ flB d L m nB ∗ foA d L m cA ∗ foB d L m cB
        ∗ sPts m d cA ∗ sPts m d cB ∗ owing d L O W)) := by
  sl_respell [k0_t1_body]
  simp only [k0_part3_eq_skeleton]; unfold k0_part3_skel
  iintro ⟨#Hmw, HiA, HiB, ⟨⟨%fA, HoA_src⟩, HoA⟩, ⟨⟨%fB, HoB_src⟩, HoB⟩, HsA, HsB, HwA, HwB, %W₀, %hW₀, HO⟩
  ihave HsA' := (Entails.of_eq (pts_sSl d L _ (k0_off12_inb L t h2) nA o12 _ _).symm) $$ HsA
  ihave HsB' := (Entails.of_eq (pts_sSl d L _ (k0_off23_inb L t h4) nB o23 _ _).symm) $$ HsB
  ihave HwA' := (Entails.of_eq (pts_wSl d L _ (k0_off13_inb L t) cA o13 _ _).symm) $$ HwA
  ihave HwB' := (Entails.of_eq (pts_wSl d L _ (k0_off24_inb L t) cB o24 _ _).symm) $$ HwB
  sl_exec
  rw [Prog.bind_assoc]
  sl_for (invA d L (aVal (m (pLoc d))) nVal (rr d m) (stChunk (m (sLoc d)) cA)) $$ [HiA_dst HoA_src]
  · intro k acc; exact stepA d L _ _ _ _ v2 v26 v27 v37 v47 v57 v67 _ _ _ _ t h26 h27 h37 h47 h57 h67 h77 h87 k acc
  · isplitl [HiA_dst]; · iexact HiA_dst
    iexists _; isplitr; swap; · iexact HoA_src
    ipureintro; intro x hx; exact absurd hx (by omega)
  iintro %acc ⟨HiA_dst, %gA, %hgA, HoA_src⟩
  sl_exec
  rw [Prog.bind_assoc]
  sl_for (invB d L (aVal (m (pLoc d))) nVal (rr d m) (stChunk (m (sLoc d)) cB)) $$ [HiB_dst HoB_src]
  · intro k acc; exact stepB d L _ _ _ _ v2 v26 v27 v37 v47 v57 v67 _ _ _ _ t h26 h27 h37 h47 h57 h67 h77 h87 k acc
  · isplitl [HiB_dst]; · iexact HiB_dst
    iexists _; isplitr; swap; · iexact HoB_src
    ipureintro; intro x hx; exact absurd hx (by omega)
  iintro %acc ⟨HiB_dst, %gB, %hgB, HoB_src⟩
  sl_exec
  sl_step
  isplitl [HiA]; · iapply (flA_intro d L m _ (k0_off12_inb L t h2) nA o12 _ _ rfl); iexact HiA
  isplitl [HiB]; · iapply (flB_intro d L m _ (k0_off23_inb L t h4) nB o23 _ _ rfl); iexact HiB
  isplitl [HoA]; · iapply (foA_intro d L m _ (k0_off13_inb L t) cA o13 _ gA _ rfl hgA); iexact HoA
  isplitl [HoB]; · iapply (foB_intro d L m _ (k0_off24_inb L t) cB o24 _ gB _ rfl hgB); iexact HoB
  isplitl [HiA_src]; · iexact HiA_src
  isplitl [HiB_src]; · iexact HiB_src
  iexists _; isplitr; swap; · iexact HO
  ipureintro; exact rec_insert (rec_insert hW₀ _) _

set_option maxHeartbeats 2000000 in
/-- The last trip. -/
theorem tripLast (v2 : BitVec 32) (v8 : IVec S16 32) (v19 : Vec F S16 .i32) (v23 v25 : F .f32) (v26 v27 v37 v47 v57 v67 : FVec F S16 .f32) (v68 : IVec S16 32)
    (h26 : ∀ x, v26 x = aVal (m (pLoc d))) (h27 : ∀ x, v27 x = nVal) (h37 : ∀ x, v37 x = rr d m 0) (h47 : ∀ x, v47 x = rr d m 1)
    (h57 : ∀ x, v57 x = rr d m 2) (h67 : ∀ x, v67 x = rr d m 3) (h77 : ∀ x, k0_pay1 v8 v19 v23 v25 v68 x = rr d m 4) (h87 : ∀ x, k0_pay2 v8 v19 v23 v25 x = rr d m 5)
    (t : Fin k0_t1_loop.trips) (h1 : k0_cond1 t = 1#1) (h2 : ¬ k0_cond2 t = 1#1) (h3 : k0_cond3 t = 1#1) (h4 : ¬ k0_cond4 t = 1#1) (acc : Unit)
    (pA pB cA cB : Fin 512) (O : CellTallies nD τ sig (HIx 1)) (W : Waits sig (HIx 1))
    (o13 : k0_off13 L t = ![0, 4096 * cA.val]) (o24 : k0_off24 L t = ![0, 4096 * cB.val]) :
    iprop(Transfers.MayWaits (V d (cV L) (jV L)) (default : HIx 1) O ∗ flA d L m cA ∗ flB d L m cB ∗ foA d L m pA ∗ foB d L m pB
        ∗ wPts d cA (m (wLoc d)) ∗ wPts d cB (m (wLoc d)) ∗ owing d L O W)
      ⊢ wp frame (wpE (defs₀ (F := F)) 𝒱₀ (V d (cV L) (jV L)) none) Set.univ
      (k0_t1_body L sM (Memref.isWhole_whole _) oM (Memref.isWhole_whole _) pM (Memref.isWhole_whole _) wM (Memref.isWhole_whole _)
        stA (Memref.isWhole_whole _) stB (Memref.isWhole_whole _) ouA (Memref.isWhole_whole _) ouB (Memref.isWhole_whole _)
        obM (Memref.isWhole_whole _) prM (Memref.isWhole_whole _) cc0_scratch6 cc0_scratch7 cc0_scratch8 cc0_scratch9 cc0_scoped0 cc0_scoped1
        v2 v8 v19 v23 v25 v26 v27 v37 v47 v57 v67 v68 t acc)
      (fun _ => iprop(idA d L ∗ idB d L ∗ foA d L m cA ∗ foB d L m cB
        ∗ sPts m d cA ∗ sPts m d cB ∗ wPts d pA (gBuf m d) ∗ wPts d pB (gBuf m d) ∗ owing d L O W)) := by
  sl_respell [k0_t1_body]
  simp only [k0_part3_eq_skeleton]; unfold k0_part3_skel
  iintro ⟨#Hmw, HiA, HiB, ⟨%fA, HoA⟩, ⟨%fB, HoB⟩, HwA, HwB, %W₀, %hW₀, HO⟩
  ihave HwA' := (Entails.of_eq (pts_wSl d L _ (k0_off13_inb L t) cA o13 _ _).symm) $$ HwA
  ihave HwB' := (Entails.of_eq (pts_wSl d L _ (k0_off24_inb L t) cB o24 _ _).symm) $$ HwB
  sl_exec
  rw [Prog.bind_assoc]
  sl_for (invA d L (aVal (m (pLoc d))) nVal (rr d m) (stChunk (m (sLoc d)) cA)) $$ [HiA_dst HoA_src]
  · intro k acc; exact stepA d L _ _ _ _ v2 v26 v27 v37 v47 v57 v67 _ _ _ _ t h26 h27 h37 h47 h57 h67 h77 h87 k acc
  · isplitl [HiA_dst]; · iexact HiA_dst
    iexists _; isplitr; swap; · iexact HoA_src
    ipureintro; intro x hx; exact absurd hx (by omega)
  iintro %acc ⟨HiA_dst, %gA, %hgA, HoA_src⟩
  sl_exec
  rw [Prog.bind_assoc]
  sl_for (invB d L (aVal (m (pLoc d))) nVal (rr d m) (stChunk (m (sLoc d)) cB)) $$ [HiB_dst HoB_src]
  · intro k acc; exact stepB d L _ _ _ _ v2 v26 v27 v37 v47 v57 v67 _ _ _ _ t h26 h27 h37 h47 h57 h67 h77 h87 k acc
  · isplitl [HiB_dst]; · iexact HiB_dst
    iexists _; isplitr; swap; · iexact HoB_src
    ipureintro; intro x hx; exact absurd hx (by omega)
  iintro %acc ⟨HiB_dst, %gB, %hgB, HoB_src⟩
  sl_exec
  sl_step
  isplitl [HiA HiA_dst]
  · isplitl [HiA_dst]; · iexists _; iexact HiA_dst
    iexact HiA
  isplitl [HiB HiB_dst]
  · isplitl [HiB_dst]; · iexists _; iexact HiB_dst
    iexact HiB
  isplitl [HoA]; · iapply (foA_intro d L m _ (k0_off13_inb L t) cA o13 _ gA _ rfl hgA); iexact HoA
  isplitl [HoB]; · iapply (foB_intro d L m _ (k0_off24_inb L t) cB o24 _ gB _ rfl hgB); iexact HoB
  isplitl [HiA_src]; · iexact HiA_src
  isplitl [HiB_src]; · iexact HiB_src
  isplitl [HoA_dst]; · iexact HoA_dst
  isplitl [HoB_dst]; · iexact HoB_dst
  iexists _; isplitr; swap; · iexact HO
  ipureintro; exact rec_insert (rec_insert (rec_insert (rec_insert hW₀ _) _) _) _

end Trip

end Cert.Proof.Tiles

end
-- ==== Proof.Loop.lean ====
/-
  A tile's outer loop: what holds before trip `k` (the fetches and the copies on their way, the chunks still at home, the
  chunks done), and that a trip takes it to `k + 1`.
-/
module

public import proofs.«01_k».proof.Proof.Outer

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Families over the eight trips -/

section Families

/-- The family without its member `k`. -/
def gap (Φ : Fin 8 → sProp 𝕄) (k : ℕ) : sProp 𝕄 := bigSep (Finset.univ.filter fun t : Fin 8 => t.val ≠ k) Φ
/-- Member `t` once `k` trips are done: `Φ1` if trip `t` is one of them. -/
def mix (Φ0 Φ1 : Fin 8 → sProp 𝕄) (k : ℕ) (t : Fin 8) : sProp 𝕄 := if t.val < k then Φ1 t else Φ0 t
/-- All of them but member `k - 1`. -/
def outGap (Φ0 Φ1 : Fin 8 → sProp 𝕄) (k : ℕ) : sProp 𝕄 := bigSep (Finset.univ.filter fun t : Fin 8 => t.val + 1 ≠ k) (mix Φ0 Φ1 k)

theorem gap_lt (Φ : Fin 8 → sProp 𝕄) (k : ℕ) (h : k < 8) : bigSep Finset.univ Φ = iprop(Φ ⟨k, h⟩ ∗ gap Φ k) := by
  rw [SparseCore.bigSep_erase' (Finset.mem_univ (⟨k, h⟩ : Fin 8))]
  unfold gap
  congr 2
  ext t
  simp [Fin.ext_iff]
theorem gap_end (Φ : Fin 8 → sProp 𝕄) : gap Φ 8 = bigSep Finset.univ Φ := by
  unfold gap
  rw [Finset.filter_true_of_mem fun t _ => Nat.ne_of_lt t.isLt]
/-- The next member leaves as this one comes back. -/
theorem gap_swap (Φ : Fin 8 → sProp 𝕄) (k : ℕ) (h : k + 1 < 8) : gap Φ k ⊢ iprop(Φ ⟨k + 1, h⟩ ∗ (Φ ⟨k, by omega⟩ -∗ gap Φ (k + 1))) := by
  have e : gap Φ k = iprop(Φ ⟨k + 1, h⟩ ∗ bigSep ((Finset.univ.filter fun t : Fin 8 => t.val ≠ k).erase ⟨k + 1, h⟩) Φ) :=
    SparseCore.bigSep_erase' (by simp)
  have e' : gap Φ (k + 1) = iprop(Φ ⟨k, by omega⟩ ∗ bigSep ((Finset.univ.filter fun t : Fin 8 => t.val ≠ k).erase ⟨k + 1, h⟩) Φ) := by
    refine (SparseCore.bigSep_erase' (i := (⟨k, by omega⟩ : Fin 8)) (by simp)).trans ?_
    congr 2
    ext t
    simp [Fin.ext_iff]; tauto
  rw [e, e']
  iintro ⟨H, R⟩
  isplitl [H]; · iexact H
  iintro H
  isplitl [H]; · iexact H
  iexact R
theorem gap_last (Φ : Fin 8 → sProp 𝕄) (k : ℕ) (h : k + 1 = 8) : iprop(Φ ⟨k, by omega⟩ ∗ gap Φ k) = gap Φ (k + 1) := by
  rw [← gap_lt, h, gap_end]

theorem outGap_zero (Φ0 Φ1 : Fin 8 → sProp 𝕄) : outGap Φ0 Φ1 0 = bigSep Finset.univ Φ0 := by
  unfold outGap
  rw [show (Finset.univ.filter fun t : Fin 8 => t.val + 1 ≠ 0) = Finset.univ by ext t; simp]
  exact bigSep_congr fun t _ => if_neg (Nat.not_lt_zero _)
theorem outGap_join (Φ0 Φ1 : Fin 8 → sProp 𝕄) (k : ℕ) (h : k < 8) : iprop(Φ1 ⟨k, h⟩ ∗ outGap Φ0 Φ1 (k + 1)) = bigSep Finset.univ (mix Φ0 Φ1 (k + 1)) := by
  rw [SparseCore.bigSep_erase' (Finset.mem_univ (⟨k, h⟩ : Fin 8))]
  unfold outGap
  rw [show mix Φ0 Φ1 (k + 1) ⟨k, h⟩ = Φ1 ⟨k, h⟩ from if_pos (Nat.lt_succ_self k)]
  congr 2
  ext t
  simp [Fin.ext_iff]
theorem outGap_take (Φ0 Φ1 : Fin 8 → sProp 𝕄) (k : ℕ) (h : k < 8) : bigSep Finset.univ (mix Φ0 Φ1 k) = iprop(Φ0 ⟨k, h⟩ ∗ outGap Φ0 Φ1 (k + 1)) := by
  rw [SparseCore.bigSep_erase' (Finset.mem_univ (⟨k, h⟩ : Fin 8))]
  unfold outGap
  rw [show mix Φ0 Φ1 k ⟨k, h⟩ = Φ0 ⟨k, h⟩ from if_neg (lt_irrefl k)]
  congr 1
  rw [show (Finset.univ.filter fun t : Fin 8 => t.val + 1 ≠ k + 1) = Finset.univ.erase ⟨k, h⟩ by ext t; simp [Fin.ext_iff]]
  refine bigSep_congr fun t ht => ?_
  have hne : t.val ≠ k := fun e => (Finset.mem_erase.mp ht).1 (Fin.ext e)
  unfold mix
  by_cases hl : t.val < k
  · rw [if_pos hl, if_pos (by omega)]
  · rw [if_neg hl, if_neg (by omega)]
theorem outGap_first (Φ0 Φ1 : Fin 8 → sProp 𝕄) : outGap Φ0 Φ1 0 = iprop(Φ0 ⟨0, by decide⟩ ∗ outGap Φ0 Φ1 (0 + 1)) := by
  rw [outGap_zero, ← outGap_take Φ0 Φ1 0 (by decide)]
  exact bigSep_congr fun t _ => (if_neg (Nat.not_lt_zero _)).symm
/-- The next member leaves as the one before comes back done. -/
theorem outGap_swap (Φ0 Φ1 : Fin 8 → sProp 𝕄) (k : ℕ) (h : k + 1 < 8) :
    outGap Φ0 Φ1 (k + 1) ⊢ iprop(Φ0 ⟨k + 1, h⟩ ∗ (Φ1 ⟨k, by omega⟩ -∗ outGap Φ0 Φ1 (k + 1 + 1))) := by
  have e : outGap Φ0 Φ1 (k + 1)
      = iprop(Φ0 ⟨k + 1, h⟩ ∗ bigSep ((Finset.univ.filter fun t : Fin 8 => t.val + 1 ≠ k + 1).erase ⟨k + 1, h⟩) (mix Φ0 Φ1 (k + 1))) := by
    refine (SparseCore.bigSep_erase' (i := (⟨k + 1, h⟩ : Fin 8)) (by simp)).trans ?_
    rw [show mix Φ0 Φ1 (k + 1) ⟨k + 1, h⟩ = Φ0 ⟨k + 1, h⟩ from if_neg (lt_irrefl _)]
  have e' : outGap Φ0 Φ1 (k + 1 + 1)
      = iprop(Φ1 ⟨k, by omega⟩ ∗ bigSep ((Finset.univ.filter fun t : Fin 8 => t.val + 1 ≠ k + 1).erase ⟨k + 1, h⟩) (mix Φ0 Φ1 (k + 1))) := by
    refine (SparseCore.bigSep_erase' (i := (⟨k, by omega⟩ : Fin 8)) (by simp)).trans ?_
    rw [show mix Φ0 Φ1 (k + 1 + 1) ⟨k, by omega⟩ = Φ1 ⟨k, by omega⟩ from if_pos (show k < k + 1 + 1 by omega)]
    congr 1
    rw [show (Finset.univ.filter fun t : Fin 8 => t.val + 1 ≠ k + 1 + 1).erase ⟨k, by omega⟩
      = (Finset.univ.filter fun t : Fin 8 => t.val + 1 ≠ k + 1).erase ⟨k + 1, h⟩ by ext t; simp [Fin.ext_iff]; tauto]
    refine bigSep_congr fun t ht => ?_
    have hne : t.val ≠ k + 1 := fun e => (Finset.mem_erase.mp ht).1 (Fin.ext e)
    unfold mix
    by_cases hl : t.val < k + 1
    · rw [if_pos hl, if_pos (by omega)]
    · rw [if_neg hl, if_neg (by omega)]
  rw [e, e']
  iintro ⟨H, R⟩
  isplitl [H]; · iexact H
  iintro H
  isplitl [H]; · iexact H
  iexact R
theorem mix_end (Φ0 Φ1 : Fin 8 → sProp 𝕄) : bigSep Finset.univ (mix Φ0 Φ1 8) = bigSep Finset.univ Φ1 :=
  bigSep_congr fun t _ => if_pos t.isLt

end Families

/-! ## The invariant -/

section Loop
variable (d : Dev nD) (L : grid0.Coords) (m : (ℓ : Loc nD τ sig) → Buf (Elt F) ℓ)

/-- The chunks of the states in half `b` of the trips; -/
abbrev sF (b : Fin 2) (t : Fin 8) : sProp 𝕄 := sPts m d (ch L t b)
/-- of the result, untouched; -/
abbrev wF (b : Fin 2) (t : Fin 8) : sProp 𝕄 := wPts d (ch L t b) (m (wLoc d))

def inA (k : ℕ) : sProp 𝕄 := if h : k < 8 then flA d L m (ch L ⟨k, h⟩ 0) else idA d L
def inB (k : ℕ) : sProp 𝕄 := if h : k < 8 then flB d L m (ch L ⟨k, h⟩ 1) else idB d L
theorem inA_lt (k : ℕ) (h : k < 8) : inA d L m k = flA d L m (ch L ⟨k, h⟩ 0) := dif_pos h
theorem inB_lt (k : ℕ) (h : k < 8) : inB d L m k = flB d L m (ch L ⟨k, h⟩ 1) := dif_pos h
theorem inA_end : inA d L m 8 = idA d L := dif_neg (lt_irrefl 8)
theorem inB_end : inB d L m 8 = idB d L := dif_neg (lt_irrefl 8)

variable [FloatOps F]

/-- done. -/
abbrev gF (b : Fin 2) (t : Fin 8) : sProp 𝕄 := wPts d (ch L t b) (gBuf m d)

def outA : ℕ → sProp 𝕄
  | 0 => ioA d L
  | k + 1 => if h : k < 8 then foA d L m (ch L ⟨k, h⟩ 0) else ioA d L
def outB : ℕ → sProp 𝕄
  | 0 => ioB d L
  | k + 1 => if h : k < 8 then foB d L m (ch L ⟨k, h⟩ 1) else ioB d L
theorem outA_zero : outA d L m 0 = ioA d L := rfl
theorem outB_zero : outB d L m 0 = ioB d L := rfl
theorem outA_succ (k : ℕ) (h : k < 8) : outA d L m (k + 1) = foA d L m (ch L ⟨k, h⟩ 0) := dif_pos h
theorem outB_succ (k : ℕ) (h : k < 8) : outB d L m (k + 1) = foB d L m (ch L ⟨k, h⟩ 1) := dif_pos h

/-- Before trip `k`: chunk pair `k` on its way in (none after the last trip), chunk pair `k - 1`'s results on their way out
    (none before the first), the other chunks of the states at home, the other chunks of the result done up to trip
    `k - 2` and untouched from `k` on. -/
def loopI (O : CellTallies nD τ sig (HIx 1)) (W : Waits sig (HIx 1)) (k : ℕ) (_ : Unit) : sProp 𝕄 :=
  iprop(Transfers.MayWaits (V d (cV L) (jV L)) (default : HIx 1) O ∗ inA d L m k ∗ inB d L m k ∗ outA d L m k ∗ outB d L m k
    ∗ gap (sF d L m 0) k ∗ gap (sF d L m 1) k ∗ outGap (wF d L m 0) (gF d L m 0) k ∗ outGap (wF d L m 1) (gF d L m 1) k ∗ owing d L O W)

theorem loopI_eq (O : CellTallies nD τ sig (HIx 1)) (W : Waits sig (HIx 1)) (k : ℕ) (acc : Unit) : loopI d L m O W k acc =
  iprop(Transfers.MayWaits (V d (cV L) (jV L)) (default : HIx 1) O ∗ inA d L m k ∗ inB d L m k ∗ outA d L m k ∗ outB d L m k
    ∗ gap (sF d L m 0) k ∗ gap (sF d L m 1) k ∗ outGap (wF d L m 0) (gF d L m 0) k ∗ outGap (wF d L m 1) (gF d L m 1) k ∗ owing d L O W) := rfl

theorem use_frame {A P' Q : sProp 𝕄} {A' : Unit → sProp 𝕄} {e : Prog (TpuEff nD τ sig (Elt F) Λ₀ (.scVector (cV L) (jV L))) Unit}
    (h1 : ∀ a, A ⊢ iprop(P' ∗ (Q -∗ A' a))) (h2 : P' ⊢ wp frame (wpE (defs₀ (F := F)) 𝒱₀ (V d (cV L) (jV L)) none) Set.univ e (fun _ => Q)) :
    A ⊢ wp frame (wpE (defs₀ (F := F)) 𝒱₀ (V d (cV L) (jV L)) none) Set.univ e A' := by
  refine (h1 ()).trans ?_
  iintro ⟨HP, HW⟩
  iapply (wp_wand_r Idealize.ShloMosaic.frame (wpE (defs₀ (F := F)) 𝒱₀ (V d (cV L) (jV L)) none) Set.univ)
  isplitl [HP]
  · iapply h2; iexact HP
  iintro %a HQ
  iapply HW; iexact HQ

theorem off12_ch (t : Fin k0_t1_loop.trips) (k : ℕ) (e : t.val = k) (h : k + 1 < 8) : k0_off12 L t = ![4096 * (ch L ⟨k + 1, h⟩ 0).val] := by
  rw [k0_off12_eq]; unfold ch; congr 1; simp only [Fin.val_zero]; omega
theorem off23_ch (t : Fin k0_t1_loop.trips) (k : ℕ) (e : t.val = k) (h : k + 1 < 8) : k0_off23 L t = ![4096 * (ch L ⟨k + 1, h⟩ 1).val] := by
  rw [k0_off23_eq]; unfold ch; congr 1; simp only [Fin.val_one]; omega
theorem off13_ch (t : Fin k0_t1_loop.trips) (k : ℕ) (e : t.val = k) (h : k < 8) : k0_off13 L t = ![0, 4096 * (ch L ⟨k, h⟩ 0).val] := by
  rw [k0_off13_eq]; unfold ch; congr 2; simp only [Fin.val_zero]; omega
theorem off24_ch (t : Fin k0_t1_loop.trips) (k : ℕ) (e : t.val = k) (h : k < 8) : k0_off24 L t = ![0, 4096 * (ch L ⟨k, h⟩ 1).val] := by
  rw [k0_off24_eq]; unfold ch; congr 2; simp only [Fin.val_one]; omega

/-- A trip of the outer loop. -/
theorem trip (v2 : BitVec 32) (v8 : IVec S16 32) (v19 : Vec F S16 .i32) (v23 v25 : F .f32) (v26 v27 v37 v47 v57 v67 : FVec F S16 .f32) (v68 : IVec S16 32)
    (h26 : ∀ x, v26 x = aVal (m (pLoc d))) (h27 : ∀ x, v27 x = nVal) (h37 : ∀ x, v37 x = rr d m 0) (h47 : ∀ x, v47 x = rr d m 1)
    (h57 : ∀ x, v57 x = rr d m 2) (h67 : ∀ x, v67 x = rr d m 3) (h77 : ∀ x, k0_pay1 v8 v19 v23 v25 v68 x = rr d m 4) (h87 : ∀ x, k0_pay2 v8 v19 v23 v25 x = rr d m 5)
    (O : CellTallies nD τ sig (HIx 1)) (W : Waits sig (HIx 1)) (t : Fin k0_t1_loop.trips) (acc : Unit) :
    loopI d L m O W t.val acc ⊢ wp frame (wpE (defs₀ (F := F)) 𝒱₀ (V d (cV L) (jV L)) none) Set.univ
      (k0_t1_body L sM (Memref.isWhole_whole _) oM (Memref.isWhole_whole _) pM (Memref.isWhole_whole _) wM (Memref.isWhole_whole _)
        stA (Memref.isWhole_whole _) stB (Memref.isWhole_whole _) ouA (Memref.isWhole_whole _) ouB (Memref.isWhole_whole _)
        obM (Memref.isWhole_whole _) prM (Memref.isWhole_whole _) cc0_scratch6 cc0_scratch7 cc0_scratch8 cc0_scratch9 cc0_scoped0 cc0_scoped1
        v2 v8 v19 v23 v25 v26 v27 v37 v47 v57 v67 v68 t acc)
      (fun acc => loopI d L m O W (t.val + 1) acc) := by
  have ht : t.val < 8 := trips8 ▸ t.isLt
  rcases Nat.eq_zero_or_pos t.val with h0 | hpos
  · refine use_frame d L (A' := loopI d L m O W (t.val + 1)) ?_ (tripFirst d L m v2 v8 v19 v23 v25 v26 v27 v37 v47 v57 v67 v68 h26 h27 h37 h47 h57 h67 h77 h87 t
      (fun h => absurd ((cond1_iff t).mp h) (by omega)) ((cond2_iff t).mpr (by omega))
      (fun h => absurd ((cond3_iff t).mp h) (by omega)) ((cond4_iff t).mpr (by omega)) acc
      (ch L ⟨0, by decide⟩ 0) (ch L ⟨0, by decide⟩ 1) (ch L ⟨0 + 1, by decide⟩ 0) (ch L ⟨0 + 1, by decide⟩ 1) O W
      (off12_ch L t 0 h0 (by decide)) (off23_ch L t 0 h0 (by decide)) (off13_ch L t 0 h0 (by decide)) (off24_ch L t 0 h0 (by decide)))
    intro a
    rw [h0]
    rw [loopI_eq, loopI_eq, inA_lt d L m 0 (by decide), inB_lt d L m 0 (by decide), inA_lt d L m (0 + 1) (by decide), inB_lt d L m (0 + 1) (by decide),
      outA_zero, outB_zero, outA_succ d L m 0 (by decide), outB_succ d L m 0 (by decide), outGap_first, outGap_first]
    iintro ⟨#Hmw, HiA, HiB, HoA, HoB, HgA, HgB, ⟨HwA, HcA⟩, ⟨HwB, HcB⟩, HO⟩
    ihave HgA' := (gap_swap (sF d L m 0) 0 (by decide)) $$ HgA
    ihave HgB' := (gap_swap (sF d L m 1) 0 (by decide)) $$ HgB
    icases HgA' with ⟨HsA, HgA⟩
    icases HgB' with ⟨HsB, HgB⟩
    isplitl [HiA HiB HoA HoB HsA HsB HwA HwB HO]
    · isplitl []; · iexact Hmw
      isplitl [HiA]; · iexact HiA
      isplitl [HiB]; · iexact HiB
      isplitl [HoA]; · iexact HoA
      isplitl [HoB]; · iexact HoB
      isplitl [HsA]; · iexact HsA
      isplitl [HsB]; · iexact HsB
      isplitl [HwA]; · iexact HwA
      isplitl [HwB]; · iexact HwB
      iexact HO
    iintro ⟨HiA, HiB, HoA, HoB, HsA, HsB, HO⟩
    isplitl []; · iexact Hmw
    isplitl [HiA]; · iexact HiA
    isplitl [HiB]; · iexact HiB
    isplitl [HoA]; · iexact HoA
    isplitl [HoB]; · iexact HoB
    isplitl [HgA HsA]; · iapply HgA; iexact HsA
    isplitl [HgB HsB]; · iapply HgB; iexact HsB
    isplitl [HcA]; · iexact HcA
    isplitl [HcB]; · iexact HcB
    iexact HO
  obtain ⟨k, hk⟩ : ∃ k, t.val = k + 1 := ⟨t.val - 1, by omega⟩
  rcases Nat.lt_or_ge t.val 7 with h7 | h7
  · refine use_frame d L (A' := loopI d L m O W (t.val + 1)) ?_ (tripMid d L m v2 v8 v19 v23 v25 v26 v27 v37 v47 v57 v67 v68 h26 h27 h37 h47 h57 h67 h77 h87 t
      ((cond1_iff t).mpr (by omega)) ((cond2_iff t).mpr h7)
      ((cond3_iff t).mpr (by omega)) ((cond4_iff t).mpr h7) acc
      (ch L ⟨k, by omega⟩ 0) (ch L ⟨k, by omega⟩ 1) (ch L ⟨k + 1, by omega⟩ 0) (ch L ⟨k + 1, by omega⟩ 1)
      (ch L ⟨k + 1 + 1, by omega⟩ 0) (ch L ⟨k + 1 + 1, by omega⟩ 1) O W
      (off12_ch L t (k + 1) hk (by omega)) (off23_ch L t (k + 1) hk (by omega)) (off13_ch L t (k + 1) hk (by omega)) (off24_ch L t (k + 1) hk (by omega)))
    intro a
    rw [hk]
    rw [loopI_eq, loopI_eq, inA_lt d L m (k + 1) (by omega), inB_lt d L m (k + 1) (by omega), inA_lt d L m (k + 1 + 1) (by omega), inB_lt d L m (k + 1 + 1) (by omega),
      outA_succ d L m k (by omega), outB_succ d L m k (by omega), outA_succ d L m (k + 1) (by omega), outB_succ d L m (k + 1) (by omega)]
    iintro ⟨#Hmw, HiA, HiB, HoA, HoB, HgA, HgB, HcA, HcB, HO⟩
    ihave HgA' := (gap_swap (sF d L m 0) (k + 1) (by omega)) $$ HgA
    ihave HgB' := (gap_swap (sF d L m 1) (k + 1) (by omega)) $$ HgB
    ihave HcA' := (outGap_swap (wF d L m 0) (gF d L m 0) k (by omega)) $$ HcA
    ihave HcB' := (outGap_swap (wF d L m 1) (gF d L m 1) k (by omega)) $$ HcB
    icases HgA' with ⟨HsA, HgA⟩
    icases HgB' with ⟨HsB, HgB⟩
    icases HcA' with ⟨HwA, HcA⟩
    icases HcB' with ⟨HwB, HcB⟩
    isplitl [HiA HiB HoA HoB HsA HsB HwA HwB HO]
    · isplitl []; · iexact Hmw
      isplitl [HiA]; · iexact HiA
      isplitl [HiB]; · iexact HiB
      isplitl [HoA]; · iexact HoA
      isplitl [HoB]; · iexact HoB
      isplitl [HsA]; · iexact HsA
      isplitl [HsB]; · iexact HsB
      isplitl [HwA]; · iexact HwA
      isplitl [HwB]; · iexact HwB
      iexact HO
    iintro ⟨HiA, HiB, HoA, HoB, HsA, HsB, HwA, HwB, HO⟩
    isplitl []; · iexact Hmw
    isplitl [HiA]; · iexact HiA
    isplitl [HiB]; · iexact HiB
    isplitl [HoA]; · iexact HoA
    isplitl [HoB]; · iexact HoB
    isplitl [HgA HsA]; · iapply HgA; iexact HsA
    isplitl [HgB HsB]; · iapply HgB; iexact HsB
    isplitl [HcA HwA]; · iapply HcA; iexact HwA
    isplitl [HcB HwB]; · iapply HcB; iexact HwB
    iexact HO
  · obtain rfl : k = 6 := by omega
    refine use_frame d L (A' := loopI d L m O W (t.val + 1)) ?_ (tripLast d L m v2 v8 v19 v23 v25 v26 v27 v37 v47 v57 v67 v68 h26 h27 h37 h47 h57 h67 h77 h87 t
      ((cond1_iff t).mpr (by omega)) (fun h => absurd ((cond2_iff t).mp h) (by omega))
      ((cond3_iff t).mpr (by omega)) (fun h => absurd ((cond4_iff t).mp h) (by omega)) acc
      (ch L ⟨6, by omega⟩ 0) (ch L ⟨6, by omega⟩ 1) (ch L ⟨6 + 1, by omega⟩ 0) (ch L ⟨6 + 1, by omega⟩ 1) O W
      (off13_ch L t (6 + 1) hk (by omega)) (off24_ch L t (6 + 1) hk (by omega)))
    intro a
    rw [hk]
    rw [loopI_eq, loopI_eq, inA_lt d L m (6 + 1) (by omega), inB_lt d L m (6 + 1) (by omega), show (6 + 1 + 1 : ℕ) = 8 from rfl, inA_end, inB_end,
      outA_succ d L m 6 (by omega), outB_succ d L m 6 (by omega), outA_succ d L m (6 + 1) (by omega), outB_succ d L m (6 + 1) (by omega)]
    iintro ⟨#Hmw, HiA, HiB, HoA, HoB, HgA, HgB, HcA, HcB, HO⟩
    ihave HcA' := (outGap_swap (wF d L m 0) (gF d L m 0) 6 (by omega)) $$ HcA
    ihave HcB' := (outGap_swap (wF d L m 1) (gF d L m 1) 6 (by omega)) $$ HcB
    icases HcA' with ⟨HwA, HcA⟩
    icases HcB' with ⟨HwB, HcB⟩
    isplitl [HiA HiB HoA HoB HwA HwB HO]
    · isplitl []; · iexact Hmw
      isplitl [HiA]; · iexact HiA
      isplitl [HiB]; · iexact HiB
      isplitl [HoA]; · iexact HoA
      isplitl [HoB]; · iexact HoB
      isplitl [HwA]; · iexact HwA
      isplitl [HwB]; · iexact HwB
      iexact HO
    iintro ⟨HiA, HiB, HoA, HoB, HsA, HsB, HwA, HwB, HO⟩
    isplitl []; · iexact Hmw
    isplitl [HiA]; · iexact HiA
    isplitl [HiB]; · iexact HiB
    isplitl [HoA]; · iexact HoA
    isplitl [HoB]; · iexact HoB
    isplitl [HgA HsA]
    · iapply (Entails.of_eq (gap_last (sF d L m 0) 7 rfl))
      isplitl [HsA] <;> iassumption
    isplitl [HgB HsB]
    · iapply (Entails.of_eq (gap_last (sF d L m 1) 7 rfl))
      isplitl [HsB] <;> iassumption
    isplitl [HcA HwA]; · iapply HcA; iexact HwA
    isplitl [HcB HwB]; · iapply HcB; iexact HwB
    iexact HO

end Loop

end Cert.Proof.Tiles

end
-- ==== Proof.Tile.lean ====
/-
  A tile's whole task, and that it meets what the launch asks of it.
-/
module

public import proofs.«01_k».proof.Proof.Loop

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's own buffers and semaphores -/

theorem six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

section Own
variable (d : Dev nD) (L : grid0.Coords)

/-- The cell of the tile's DMA semaphore `k`. -/
def cellOf : Fin 6 ↪ GSem nD τ sig := ⟨fun k => (V d (cV L) (jV L), .dma k), fun a b h => by
  have h' := congrArg Prod.snd h
  exact SemLoc.dma.inj h'⟩
theorem scr_inj : ∀ a b : Fin 6, (⟨.vmem, a, rfl⟩ : Ref sig .scVector) = ⟨.vmem, b, rfl⟩ → a = b := by decide
/-- The tile's scratch buffer `k`. -/
def bufOf : Fin 6 ↪ DevRef τ sig := ⟨fun k => (Proc.scVector (cV L) (jV L)).devRef (⟨.vmem, k, rfl⟩ : Ref sig .scVector), fun a b h => by
  exact scr_inj a b (Proc.devRef_injective _ h)⟩

theorem dma_scoped : ∀ k : Fin 6, (SemLoc.dma k : SemLoc sig).isScoped .scVector = true := by decide
theorem cellOf_sub : Finset.univ.map (cellOf d L) ⊆ ownCells (V d (cV L) (jV L)) := by
  intro g hg
  obtain ⟨k, -, rfl⟩ := Finset.mem_map.mp hg
  refine mem_ownCells.mpr ⟨rfl, ?_⟩
  exact dma_scoped k
theorem bufOf_sub : Finset.univ.map (bufOf L) ⊆ ownRefs (τ := τ) (.scVector (cV L) (jV L)) := by
  intro b hb
  obtain ⟨k, -, rfl⟩ := Finset.mem_map.mp hb
  exact SparseCore.Cfg.mem_ownRefs_of_owner (p := Proc.scVector (cV L) (jV L)) rfl

/-- The other semaphores, at zero; -/
def semRest : sProp 𝕄 := bigSep (ownCells (V d (cV L) (jV L)) \ Finset.univ.map (cellOf d L)) fun g => semVal g 0
/-- the other buffers. -/
def bufRest : sProp 𝕄 := bigSep (ownRefs (τ := τ) (.scVector (cV L) (jV L)) \ Finset.univ.map (bufOf L)) fun b => iprop(∃ f, ((d, b) : Loc nD τ sig) ↦{fullShare} f)

abbrev semAt (s : DmaSems sig S_) : sProp 𝕄 := semVal ((V d (cV L) (jV L) : Thread nD τ), .dma s.sem) 0
abbrev bufAt {s : Shape} {e : EltTy} (b : Memref sig .scVector .vmem s e) : sProp 𝕄 :=
  iprop(∃ f : Buf (Elt F) (b.view.loc (V d (cV L) (jV L))), b.view.loc (V d (cV L) (jV L)) ↦{fullShare} f)

theorem ownSems0_V : (ownSems0 (V d (cV L) (jV L)) : sProp 𝕄)
    = iprop((semAt d L cc0_scratch6 ∗ semAt d L cc0_scratch7 ∗ semAt d L cc0_scratch8 ∗ semAt d L cc0_scratch9 ∗ semAt d L cc0_scoped0 ∗ semAt d L cc0_scoped1)
      ∗ semRest d L) := by
  unfold SparseCore.Cfg.ownSems0 semRest
  rw [SparseCore.bigSep_sdiff_split' (cellOf_sub d L), bigSep_map, six]
  rfl
theorem ownBufs_V : (ownBufs (V d (cV L) (jV L)) : sProp 𝕄)
    = iprop((bufAt d L stA ∗ bufAt d L stB ∗ bufAt d L ouA ∗ bufAt d L ouB ∗ bufAt d L obM ∗ bufAt d L prM) ∗ bufRest d L) := by
  unfold SparseCore.Cfg.ownBufs bufRest
  refine (SparseCore.bigSep_sdiff_split' (bufOf_sub L)).trans ?_
  rw [bigSep_map]
  refine congrArg₂ (fun a b : sProp 𝕄 => iprop(a ∗ b)) ?_ rfl
  refine (six _).trans ?_
  exact congrArg₂ (fun a b : sProp 𝕄 => iprop(a ∗ b)) rfl (congrArg₂ (fun a b : sProp 𝕄 => iprop(a ∗ b)) rfl
    (congrArg₂ (fun a b : sProp 𝕄 => iprop(a ∗ b)) rfl (congrArg₂ (fun a b : sProp 𝕄 => iprop(a ∗ b)) rfl (congrArg₂ (fun a b : sProp 𝕄 => iprop(a ∗ b)) rfl rfl))))

end Own

section Tile
variable (d : Dev nD) (L : grid0.Coords) (m : (ℓ : Loc nD τ sig) → Buf (Elt F) ℓ) [FloatOps F]

theorem off1_ch : k0_off1 L = ![4096 * (ch L ⟨0, by decide⟩ 0).val] := by
  rw [k0_off1_eq]
  exact congrArg (fun n : ℕ => (![n] : Fin 1 → ℕ)) (show _ = 4096 * (32 * (L 1).val + 16 * (L 0).val + 2 * 0 + 0) by omega)
theorem off2_ch : k0_off2 L = ![4096 * (ch L ⟨0, by decide⟩ 1).val] := by
  rw [k0_off2_eq]
  exact congrArg (fun n : ℕ => (![n] : Fin 1 → ℕ)) (show _ = 4096 * (32 * (L 1).val + 16 * (L 0).val + 2 * 0 + 1) by omega)

theorem lane6 : ∀ j : Fin 16, IntOp.cmpi .slt (lanes (ix1 j)) 6#32 = if j.val < 6 then 1#1 else 0#1 := by decide
theorem lane3 : ∀ j : Fin 16, IntOp.cmpi .slt (lanes (ix1 j)) 3#32 = if j.val < 3 then 1#1 else 0#1 := by decide

/-- What follows the sixth lane of the loaded counts does not matter; -/
theorem ob_read (fo : Buf (Elt F) (obM.view.loc (V d (cV L) (jV L)))) (w : S6.Idx → BitVec 32) :
    k0_pay20 (F := F) (View.readAt (Elt F) obM.view (Rect.unit (s := S16) ![0] S16.size inb_S16_S16_0).toLoadRect
      (obM.view.writes (Elt F) fo [⟨Rect.unit (s := S16) ![0] S6.size inb_S16_S6_0, w⟩])) = k0_pay20 (F := F) (obPad w) := by
  funext x
  obtain ⟨j, rfl⟩ : ∃ j, x = ix1 j := ⟨x 0, (ix1_eta x).symm⟩
  show Scalar.select (IntOp.cmpi .slt (lanes (ix1 j)) 6#32) _ _ = Scalar.select (IntOp.cmpi .slt (lanes (ix1 j)) 6#32) (obPad w (ix1 j)) _
  rw [lane6]
  by_cases h : j.val < 6
  · rw [if_pos h]
    show View.readAt (Elt F) obM.view (Rect.unit (s := S16) ![0] S16.size inb_S16_S16_0).toLoadRect _ (ix1 j) = obPad w (ix1 j)
    rw [View.readAt_apply, View.writes_singleton]
    have e : (Rect.unit (s := S16) ![0] S16.size inb_S16_S16_0).toLoadRect.idx (ix1 j)
        = (obM.view.slice (Rect.unit (s := S16) ![0] S6.size inb_S16_S6_0)).emb (ix1 ⟨j.val, h⟩) := by
      funext a
      have : a = 0 := Subsingleton.elim _ _
      subst this
      exact Fin.ext rfl
    rw [View.read_apply, e]
    refine (View.write_emb_of_mem (v := obM.view.slice (Rect.unit (s := S16) ![0] S6.size inb_S16_S6_0)) fo w (Finset.mem_univ (ix1 ⟨j.val, h⟩))).trans ?_
    show w _ = obPad w (ix1 j)
    exact (show obPad w (ix1 j) = w (ix1 ⟨j.val, h⟩) from dif_pos h).symm
  · rw [if_neg h]
    rfl
/-- nor what follows the third of the loaded probabilities. -/
theorem pr_read (fp : Buf (Elt F) (prM.view.loc (V d (cV L) (jV L)))) (w : S3.Idx → F .f32) :
    k0_pay19 (F := F) (View.readAt (Elt F) prM.view (Rect.unit (s := S16) ![0] S16.size inb_S16_S16_0).toLoadRect
      (prM.view.writes (Elt F) fp [⟨Rect.unit (s := S16) ![0] S3.size inb_S16_S3_0, w⟩])) = k0_pay19 (prPad w) := by
  funext x
  obtain ⟨j, rfl⟩ : ∃ j, x = ix1 j := ⟨x 0, (ix1_eta x).symm⟩
  refine congrArg FloatOps.log ?_
  show Scalar.select (IntOp.cmpi .slt (lanes (ix1 j)) 3#32) _ _ = Scalar.select (IntOp.cmpi .slt (lanes (ix1 j)) 3#32) (prPad w (ix1 j)) _
  rw [lane3]
  by_cases h : j.val < 3
  · rw [if_pos h]
    show View.readAt (Elt F) prM.view (Rect.unit (s := S16) ![0] S16.size inb_S16_S16_0).toLoadRect _ (ix1 j) = prPad w (ix1 j)
    rw [View.readAt_apply, View.writes_singleton]
    have e : (Rect.unit (s := S16) ![0] S16.size inb_S16_S16_0).toLoadRect.idx (ix1 j)
        = (prM.view.slice (Rect.unit (s := S16) ![0] S3.size inb_S16_S3_0)).emb (ix1 ⟨j.val, h⟩) := by
      funext a
      have : a = 0 := Subsingleton.elim _ _
      subst this
      exact Fin.ext rfl
    rw [View.read_apply, e]
    refine (View.write_emb_of_mem (v := prM.view.slice (Rect.unit (s := S16) ![0] S3.size inb_S16_S3_0)) fp w (Finset.mem_univ (ix1 ⟨j.val, h⟩))).trans ?_
    show w _ = prPad w (ix1 j)
    exact (show prPad w (ix1 j) = w (ix1 ⟨j.val, h⟩) from dif_pos h).symm
  · rw [if_neg h]
    rfl

/-- What the loop leaves. -/
theorem loop_end (O : CellTallies nD τ sig (HIx 1)) (W : Waits sig (HIx 1)) (acc : Unit) : loopI d L m O W k0_t1_loop.trips acc =
    iprop(Transfers.MayWaits (V d (cV L) (jV L)) (default : HIx 1) O ∗ idA d L ∗ idB d L ∗ foA d L m (ch L ⟨7, by decide⟩ 0) ∗ foB d L m (ch L ⟨7, by decide⟩ 1)
      ∗ bigSep Finset.univ (sF d L m 0) ∗ bigSep Finset.univ (sF d L m 1) ∗ outGap (wF d L m 0) (gF d L m 0) (7 + 1) ∗ outGap (wF d L m 1) (gF d L m 1) (7 + 1)
      ∗ owing d L O W) := by
  rw [trips8, loopI_eq, inA_end, inB_end, ← gap_end, ← gap_end, show outA d L m 8 = _ from outA_succ d L m 7 (by decide),
    show outB d L m 8 = _ from outB_succ d L m 7 (by decide)]

theorem off25_0 : k0_off25 L 57344#32 = ![0, 4096 * (ch L ⟨7, by decide⟩ 0).val] := by
  rw [show k0_off25 L 57344#32 = _ from k0_off25_eq L 0]
  exact congrArg (fun n : ℕ => (![0, n] : Fin 2 → ℕ)) (by show _ = 4096 * (32 * (L 1).val + 16 * (L 0).val + 2 * 7 + 0); omega)
theorem off25_1 : k0_off25 L 61440#32 = ![0, 4096 * (ch L ⟨7, by decide⟩ 1).val] := by
  rw [show k0_off25 L 61440#32 = _ from k0_off25_eq L 1]
  exact congrArg (fun n : ℕ => (![0, n] : Fin 2 → ℕ)) (by show _ = 4096 * (32 * (L 1).val + 16 * (L 0).val + 2 * 7 + 1); omega)

set_option maxHeartbeats 4000000 in
/-- The task of the tile at `L`. -/
theorem tile_body (hF : (K (F := F)).Facts) (O : CellTallies nD τ sig (HIx 1)) (W : Waits sig (HIx 1)) (hO : ∀ g, O g none = 0) :
    iprop(levAts (K (F := F)).L (K (F := F)).lev ∗ emp ∗ tileHas m d L (m (wLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
        (cc0__sc_body L sM (Memref.isWhole_whole _) oM (Memref.isWhole_whole _) pM (Memref.isWhole_whole _) wM (Memref.isWhole_whole _)
          stA (Memref.isWhole_whole _) stB (Memref.isWhole_whole _) ouA (Memref.isWhole_whole _) ouB (Memref.isWhole_whole _)
          obM (Memref.isWhole_whole _) prM (Memref.isWhole_whole _) cc0_scratch6 cc0_scratch7 cc0_scratch8 cc0_scratch9 cc0_scoped0 cc0_scoped1)
        fun _ => iprop(tileHas m d L (gBuf m d) ∗ scopedBufs (V d (cV L) (jV L)) ∗ scopedSems0 (V d (cV L) (jV L)) ∗ owing d L O W) := by
  simp only [cc0__sc_body_eq_skeleton]; unfold cc0__sc_body_skel
  simp only [k0_part4_eq_skeleton, k0_part5_eq_skeleton]; unfold k0_part4_skel k0_part5_skel
  rw [(K (F := F)).scopedBufs_V hF d (cV L) (jV L), SparseCore.Cfg.scopedSems0_V (Val := Elt F) d (cV L) (jV L), ownSems0_V, ownBufs_V]
  unfold tileHas sTile wTile
  rw [bigSep_sep', bigSep_sep', bigSep_sep', gap_lt (sF d L m 0) 0 (by decide), gap_lt (sF d L m 1) 0 (by decide)]
  iintro ⟨#Hlv, -, ⟨⟨⟨HsA, HgA⟩, HsB, HgB⟩, Ho, Hp, HwA, HwB⟩, ⟨⟨⟨%fA, HbA⟩, ⟨%fB, HbB⟩, HoA, HoB, ⟨%fo, Hob⟩, %fp, Hpr⟩, Hbufs⟩,
    ⟨⟨HiA, HiB, HcA, HcB, Hc0, Hc1⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HsA' := (Entails.of_eq (pts_sSl d L _ (k0_off1_inb L) _ (off1_ch L) _ _).symm) $$ HsA
  ihave HsB' := (Entails.of_eq (pts_sSl d L _ (k0_off2_inb L) _ (off2_ch L) _ _).symm) $$ HsB
  ihave Ho' := (show oPts m d (qT (L 0) (L 1)) ⊢ oM.view.loc (V d (cV L) (jV L)) ↦{qT (L 0) (L 1)} m (oLoc d) from .rfl) $$ Ho
  ihave Hp' := (show pPts m d (qT (L 0) (L 1)) ⊢ pM.view.loc (V d (cV L) (jV L)) ↦{qT (L 0) (L 1)} m (pLoc d) from .rfl) $$ Hp
  sl_exec
  rw [show tile_body.sl.dma0_2 d m = m (oLoc d) from rfl, show tile_body.sl.dma0_3 d m = m (pLoc d) from rfl, ob_read]
  have e19 := pr_read d L fp (m (pLoc d))
  generalize View.readAt (Elt F) prM.view (Rect.unit (s := S16) ![0] S16.size inb_S16_S16_0).toLoadRect _ = v11 at e19 ⊢
  rw [show k0_pay21 v11 = k0_pay21 (prPad (m (pLoc d))) from by unfold k0_pay21; rw [e19], show k0_pay22 v11 = k0_pay22 (prPad (m (pLoc d))) from by unfold k0_pay22; rw [e19],
    show k0_pay23 v11 = k0_pay23 (prPad (m (pLoc d))) from by unfold k0_pay23; rw [e19]]
  dsimp only
  sl_for (loopI d L m O W) $$ [Hmw HiA HiB HoA HoB HcA HcB HgA HgB HwA HwB HO]
  · intro t acc
    exact trip d L m _ _ _ _ _ _ _ _ _ _ _ _ (fun _ => rfl) (fun _ => rfl) (fun _ => rfl) (fun _ => rfl) (fun _ => rfl) (fun _ => rfl) (fun _ => rfl) (fun _ => rfl) O W t acc
  · rw [loopI_eq, inA_lt d L m 0 (by decide), inB_lt d L m 0 (by decide), outA_zero, outB_zero, outGap_zero, outGap_zero]
    isplitl [Hmw]; · iexact Hmw
    isplitl [HiA]; · iapply (flA_intro d L m _ (k0_off1_inb L) _ (off1_ch L) fA _ rfl); iexact HiA
    isplitl [HiB]; · iapply (flB_intro d L m _ (k0_off2_inb L) _ (off2_ch L) fB _ rfl); iexact HiB
    isplitl [HoA HcA]
    · isplitl [HoA]; · iexact HoA
      iexact HcA
    isplitl [HoB HcB]
    · isplitl [HoB]; · iexact HoB
      iexact HcB
    isplitl [HgA]; · iexact HgA
    isplitl [HgB]; · iexact HgB
    isplitl [HwA]; · iexact HwA
    isplitl [HwB]; · iexact HwB
    iexists _; isplitr; swap; · iexact HO
    ipureintro; exact rec_insert (rec_insert (fun p hp => Or.inl hp) _) _
  iintro %acc HI
  ihave HI' := (Entails.of_eq (loop_end d L m O W acc)) $$ HI
  icases HI' with ⟨#Hmw', HiA, HiB, ⟨%gA, HoA⟩, ⟨%gB, HoB⟩, HsA, HsB, HcA, HcB, %W₁, %hW₁, HO⟩
  sl_exec
  sl_step
  rw [← gap_lt (sF d L m 0) 0 (by decide), ← gap_lt (sF d L m 1) 0 (by decide), ← mix_end (wF d L m 0) (gF d L m 0), ← mix_end (wF d L m 1) (gF d L m 1),
    ← outGap_join (wF d L m 0) (gF d L m 0) 7 (by decide), ← outGap_join (wF d L m 1) (gF d L m 1) 7 (by decide)]
  icases HiA with ⟨HbA, HiA⟩
  icases HiB with ⟨HbB, HiB⟩
  isplitl [HsA HsB Ho' Hp' HoA_dst HcA HoB_dst HcB]
  · isplitl [HsA HsB]
    · isplitl [HsA]; · iexact HsA
      iexact HsB
    isplitl [Ho']; · iexact Ho'
    isplitl [Hp']; · iexact Hp'
    isplitl [HoA_dst HcA]
    · isplitl [HoA_dst]; · iexact HoA_dst
      iexact HcA
    isplitl [HoB_dst]; · iexact HoB_dst
    iexact HcB
  isplitl [HbA HbB HoA_src HoB_src Hob Hpr Hbufs]
  · isplitr [Hbufs]; swap; · iexact Hbufs
    isplitl [HbA]; · iexact HbA
    isplitl [HbB]; · iexact HbB
    isplitl [HoA_src]; · iexists _; iexact HoA_src
    isplitl [HoB_src]; · iexists _; iexact HoB_src
    isplitl [Hob]; · iexists _; iexact Hob
    iexists _; iexact Hpr
  isplitr [HO]
  · isplitr [Hsems]; swap; · iexact Hsems
    isplitl [HiA]; · iexact HiA
    isplitl [HiB]; · iexact HiB
    isplitl [HoA]; · iexact HoA
    isplitl [HoB]; · iexact HoB
    isplitl [Hc0]; · iexact Hc0
    iexact Hc1
  iexists _; isplitr; swap; · iexact HO
  ipureintro; exact rec_insert (rec_insert hW₁ _) _

end Tile

/-! ## The tile's obligation -/

section Obligation
variable (m : (ℓ : Loc nD τ sig) → Buf (Elt F) ℓ) [FloatOps F]

/-- What a subcore's part of the call runs: the task at its coordinates. -/
theorem defs₀_vector (c : Fin τ.nSC) (s : Fin τ.nSub) :
    defs₀ (F := F) (.scVector c s) 0 ()
      = SparseCore.onTile hcore0 hsub0 (fun c s => cc0__sc_body (coordsV c s) sM (Memref.isWhole_whole _) oM (Memref.isWhole_whole _) pM (Memref.isWhole_whole _)
          wM (Memref.isWhole_whole _) stA (Memref.isWhole_whole _) stB (Memref.isWhole_whole _) ouA (Memref.isWhole_whole _) ouB (Memref.isWhole_whole _)
          obM (Memref.isWhole_whole _) prM (Memref.isWhole_whole _) cc0_scratch6 cc0_scratch7 cc0_scratch8 cc0_scratch9 cc0_scoped0 cc0_scoped1) ⟨⟩ c s := rfl

/-- The record of waits, as the launch asks for it. -/
theorem owing_post {d : Dev nD} {L : grid0.Coords} {A B C : sProp 𝕄} {O : CellTallies nD τ sig (HIx 1)} {W : Waits sig (HIx 1)} {q : Fin 1} :
    iprop(A ∗ B ∗ C ∗ owing d L O W)
      ⊢ iprop(A ∗ B ∗ C ∗ ∃ W', ⌜∀ p ∈ W', p ∈ W ∨ p.2 = none ∨ p.2 = some q⌝ ∗ owes (V d (cV L) (jV L)) O W') := by
  iintro ⟨HA, HB, HC, %W₂, %hW₂, HO⟩
  isplitl [HA]; · iexact HA
  isplitl [HB]; · iexact HB
  isplitl [HC]; · iexact HC
  iexists W₂; isplitr; swap; · iexact HO
  ipureintro; exact fun p hp => (hW₂ p hp).elim Or.inl fun h => Or.inr (Or.inl h)

set_option maxRecDepth 16384 in
/-- Every subcore meets its obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m hF O W hO).trans (wp_mono frame _ _ fun _ => owing_post)

end Obligation

end Cert.Proof.Tiles

end
-- ==== Proof.Launch.lean ====
/-
  The launch: what each SparseCore and each subcore is handed, the host program around the launch, and the run of the
  whole program with its result.
-/
module

public import proofs.«01_k».proof.Proof.Tile
public import proofs.«01_k».proof.Proof.Gen.Kernel

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held wp_hlo_within)

/-! ## The chunks of all the tiles -/

section Split
variable (m : (ℓ : Loc nD τ sig) → Buf (Elt F) ℓ)

/-- The chunk that subcore `s` of SparseCore `c` works on in half `b` of trip `t`. -/
def chOf (x : Fin 2 × Fin 16 × Fin 8 × Fin 2) : Fin 512 := ch (coordsV x.1 x.2.1) x.2.2.1 x.2.2.2

theorem chOf_val (c : Fin 2) (s : Fin 16) (t : Fin 8) (b : Fin 2) : (chOf (c, s, t, b)).val = 32 * s.val + 16 * c.val + 2 * t.val + b.val := rfl

/-- Every chunk is worked on once. -/
theorem chOf_bij : Function.Bijective chOf := by
  constructor
  · rintro ⟨c, s, t, b⟩ ⟨c', s', t', b'⟩ h
    have h' := congrArg Fin.val h
    rw [chOf_val, chOf_val] at h'
    have := c.isLt; have := c'.isLt; have := t.isLt; have := t'.isLt; have := b.isLt; have := b'.isLt
    have e1 : c = c' := Fin.ext (by omega)
    have e2 : s = s' := Fin.ext (by omega)
    have e3 : t = t' := Fin.ext (by omega)
    have e4 : b = b' := Fin.ext (by omega)
    rw [e1, e2, e3, e4]
  · intro n
    have := n.isLt
    refine ⟨(⟨n.val / 16 % 2, by omega⟩, ⟨n.val / 32, by omega⟩, ⟨n.val / 2 % 8, by omega⟩, ⟨n.val % 2, by omega⟩), Fin.ext ?_⟩
    rw [chOf_val]
    show 32 * (n.val / 32) + 16 * (n.val / 16 % 2) + 2 * (n.val / 2 % 8) + n.val % 2 = n.val
    omega

/-- All the chunks, tile by tile. -/
theorem chunks_by_tile (Φ : Fin 512 → sProp 𝕄) :
    bigSep Finset.univ Φ = bigSep Finset.univ fun c : Fin 2 => bigSep Finset.univ fun s : Fin 16 => bigSep Finset.univ fun t : Fin 8 =>
      iprop(Φ (ch (coordsV c s) t 0) ∗ Φ (ch (coordsV c s) t 1)) := by
  rw [bigSep_univ_equiv (Equiv.ofBijective chOf chOf_bij) Φ, bigSep_univ_prod]
  refine bigSep_congr fun c _ => ?_
  rw [bigSep_univ_prod]
  refine bigSep_congr fun s _ => ?_
  rw [bigSep_univ_prod]
  refine bigSep_congr fun t _ => ?_
  exact BI.bigSep_fin_two _

theorem sAll (d : Dev nD) (f : Buf (Elt F) (sLoc d)) :
    (sLoc d ↦{fullShare} f : sProp 𝕄) = bigSep Finset.univ fun n : Fin 512 => sLoc d ↦[sSet n]{fullShare} f := by
  refine Eq.trans ?_ (pointsTo_biUnion Finset.univ (ℓ := sLoc d) sSet fun i _ j _ h => Rect.part_disjoint sdiv h)
  rw [show (Finset.univ : Finset (Fin 512)).biUnion sSet = Finset.univ from Rect.biUnion_part sdiv]
  try rfl
theorem wAll (d : Dev nD) (f : Buf (Elt F) (wLoc d)) :
    (wLoc d ↦{fullShare} f : sProp 𝕄) = bigSep Finset.univ fun n : Fin 512 => wPts d n f := by
  refine Eq.trans ?_ (pointsTo_biUnion Finset.univ (ℓ := wLoc d) wSet fun i _ j _ h => Rect.part_disjoint wdiv h)
  rw [show (Finset.univ : Finset (Fin 512)).biUnion wSet = Finset.univ from Rect.biUnion_part wdiv]
  try rfl

/-- What the two SparseCores hold together. -/
theorem cores_has (d : Dev nD) (f : Buf (Elt F) (wLoc d)) :
    (bigSep Finset.univ fun c : Fin ((K (F := F)).nCore 0) => coreHas m d (Fin.cast nCore_zero c) f)
      = iprop((sLoc d ↦{fullShare} m (sLoc d)) ∗ (bigSep Finset.univ fun c : Fin 2 => oPts m d (qC c)) ∗ (bigSep Finset.univ fun c : Fin 2 => pPts m d (qC c))
          ∗ wLoc d ↦{fullShare} f) := by
  rw [sAll, wAll, chunks_by_tile, chunks_by_tile, ← bigSep_sep', ← bigSep_sep', ← bigSep_sep']
  exact bigSep_congr fun c _ => congrArg (fun c => coreHas m d c f) (Fin.ext rfl)

/-- What a SparseCore's subcores hold together. -/
theorem tasks_has (d : Dev nD) (c : Fin 2) (f : Buf (Elt F) (wLoc d)) :
    (bigSep Finset.univ fun i : Fin ((K (F := F)).nSub 0) => tileHas m d (coordsV c (Fin.cast nSub_zero i)) f)
      = iprop((bigSep Finset.univ fun s : Fin 16 => sTile m d (coordsV c s)) ∗ (bigSep Finset.univ fun s : Fin 16 => oPts m d (qT c s))
          ∗ (bigSep Finset.univ fun s : Fin 16 => pPts m d (qT c s)) ∗ bigSep Finset.univ fun s : Fin 16 => wTile d (coordsV c s) f) := by
  rw [← bigSep_sep', ← bigSep_sep', ← bigSep_sep']
  exact bigSep_congr fun i _ => congrArg (fun i => tileHas m d (coordsV c i) f) (Fin.ext rfl)

/-- A SparseCore deals its part to its subcores, and gathers theirs. -/
theorem deal (d : Dev nD) (c : Fin 2) (f g : Buf (Elt F) (wLoc d)) : coreHas m d c f ⊢ |={Set.univ}=> iprop(
      (bigSep Finset.univ fun i : Fin ((K (F := F)).nSub 0) => tileHas m d (coordsV c (Fin.cast nSub_zero i)) f)
      ∗ ((bigSep Finset.univ fun i : Fin ((K (F := F)).nSub 0) => tileHas m d (coordsV c (Fin.cast nSub_zero i)) g) -∗ coreHas m d c g)) := by
  rw [tasks_has, tasks_has]
  iintro ⟨Hs, Ho, Hp, Hw⟩
  ihave Ho' := (Transfers.pointsTo_toks_split (qC c) 16) $$ Ho
  ihave Hp' := (Transfers.pointsTo_toks_split (qC c) 16) $$ Hp
  icases Ho' with ⟨Hod, Ho⟩
  icases Hp' with ⟨Hpd, Hp⟩
  imodintro
  isplitl [Hs Ho Hp Hw]
  · isplitl [Hs]; · iexact Hs
    isplitl [Ho]; · iexact Ho
    isplitl [Hp]; · iexact Hp
    iexact Hw
  iintro ⟨Hs, Ho, Hp, Hw⟩
  isplitl [Hs]; · iexact Hs
  isplitl [Hod Ho]
  · iapply (Transfers.pointsTo_toks_join (qC c) 16)
    isplitl [Hod]; · iexact Hod
    iexact Ho
  isplitl [Hpd Hp]
  · iapply (Transfers.pointsTo_toks_join (qC c) 16)
    isplitl [Hpd]; · iexact Hpd
    iexact Hp
  iexact Hw

variable [FloatOps F] in
theorem vecSplit : (K (F := F)).VecSplit' (P m) 0 := fun d c => deal m d (Fin.cast nCore_zero c) (m (wLoc d)) (gBuf m d)

end Split

/-! ## The ghost state at launch -/

section Run
variable (m : (ℓ : Loc nD τ sig) → Buf (Elt F) ℓ) (ρ : Dev nD → PrngReg)

def u₀ : UU := (initOf (K (F := F)).hsCells (K (F := F)).hsToks, 1)

theorem emps {I : Type} (s : Finset I) : (bigSep s fun _ => iprop(emp)) = (iprop(emp) : sProp 𝕄) := bigSep_emp_const s

section
variable [FloatOps F]
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [emps, show (bigSep Finset.univ fun thr : Thread nD τ => bigSep Finset.univ fun q : Fin 1 => (P (F := F) m).x q thr) = iprop(emp) from
    (bigSep_congr fun _ _ => emps _).trans (emps _)]
  iintro Hu
  ihave H := (ownU_pair (initOf (K (F := F)).hsCells (K (F := F)).hsToks) (1 : Counters)) $$ Hu
  icases H with ⟨HH, -⟩
  imodintro
  isplitl [HH]; · iexact HH
  isplitr <;> iempintro
end

/-! ## The host program -/

/-- The launch's result and the transposed one, as buffers of the device. -/
abbrev wRef : DevRef τ sig := Proc.devRef .tc (main_v0 : Ref sig .tc)
abbrev zRef : DevRef τ sig := Proc.devRef .tc (main_v1 : Ref sig .tc)
abbrev turn : (⟨S6x2097152, .f32⟩ : BufTy).Contents (Elt F) → (⟨S2097152x6, .f32⟩ : BufTy).Contents (Elt F) :=
  (transpose S2097152x6 [1, 0] · transposes_S6x2097152_S2097152x6_1_0)
abbrev opTurn : HloOp τ sig (Elt F) := StableHlo.unary main_v0 main_v1 turn
abbrev two : Finset (DevRef τ sig) := {wRef, zRef}

theorem held_two (d : Dev nD) (W : Valuation τ sig (Elt F)) :
    (held (T d) two W : sProp 𝕄) = iprop((wLoc d ↦{fullShare} W wRef) ∗ zLoc d ↦{fullShare} W zRef) := by
  unfold held two
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((sLoc d ↦{fullShare} W main_arg0) ∗ (oLoc d ↦{fullShare} W main_arg1) ∗ (pLoc d ↦{fullShare} W main_arg2)
      ∗ (wLoc d ↦{fullShare} W main_v0) ∗ zLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

variable [FloatOps F]

/-- The result of the program. -/
abbrev zBuf (d : Dev nD) : Buf (Elt F) (zLoc d) := turn (F := F) (gBuf m d)

/-- The buffers' contents as the launch returns. -/
def V1 (d : Dev nD) : Valuation τ sig (Elt F) := Function.update (fun b => m (d, b)) wRef (gBuf m d)
theorem V1_w (d : Dev nD) : V1 m d wRef = gBuf m d := Function.update_self _ _ _
theorem V1_z (d : Dev nD) : V1 m d zRef = m (zLoc d) := Function.update_of_ne (show zRef ≠ wRef by decide) _ _

theorem turned (d : Dev nD) : (opTurn (F := F)).result (V1 m d) zRef = zBuf m d :=
  (StableHlo.unary_result main_v0 main_v1 turn _ _ (V1 m d)).trans (congrArg (turn (F := F)) (V1_w m d))

/-- What the program ends with: the arguments as they were, and the result. -/
abbrev FIN (d : Dev nD) : sProp 𝕄 :=
  iprop((sLoc d ↦{fullShare} m (sLoc d)) ∗ (oLoc d ↦{fullShare} m (oLoc d)) ∗ (pLoc d ↦{fullShare} m (pLoc d)) ∗ zLoc d ↦{fullShare} zBuf m d)

theorem st_eq (d : Dev nD) : (bigSep Finset.univ fun c : Fin ((K (F := F)).nCore 0) => (P m).st 0 d c) = iprop((sLoc d ↦{fullShare} m (sLoc d))
    ∗ (bigSep Finset.univ fun c : Fin 2 => oPts m d (qC c)) ∗ (bigSep Finset.univ fun c : Fin 2 => pPts m d (qC c)) ∗ wLoc d ↦{fullShare} m (wLoc d)) :=
  cores_has m d (m (wLoc d))
theorem dn_eq (d : Dev nD) : (bigSep Finset.univ fun c : Fin ((K (F := F)).nCore 0) => (P m).dn 0 d c) = iprop((sLoc d ↦{fullShare} m (sLoc d))
    ∗ (bigSep Finset.univ fun c : Fin 2 => oPts m d (qC c)) ∗ (bigSep Finset.univ fun c : Fin 2 => pPts m d (qC c)) ∗ wLoc d ↦{fullShare} gBuf m d) :=
  cores_has m d (gBuf m d)

theorem hTurn : (opTurn (F := F)).bufs ⊆ two := show ({wRef, zRef} : Finset (DevRef τ sig)) ⊆ two by decide

/-- The host program: the launch, then the transposition. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hs, Ho, Hp, Hw, Hz⟩, Hts, -⟩, -⟩
  ihave Ho' := (Transfers.pointsTo_toks_split (ℓ := oLoc d) fullShare 2) $$ Ho
  ihave Hp' := (Transfers.pointsTo_toks_split (ℓ := pLoc d) fullShare 2) $$ Hp
  icases Ho' with ⟨Hod, Ho⟩
  icases Hp' with ⟨Hpd, Hp⟩
  iapply ((K (F := F)).wp_run (D (F := F)) 𝒱 (EH := EH) (P := P m) κ d 0) $$ [Hst Hs Ho Hp Hw Hz Hod Hpd Hb Hts]
  isplitr; · iexact Hctx
  isplitl [Hst]; · iexact Hst
  isplitl [Hs Ho Hp Hw]
  · rw [st_eq]
    isplitl [Hs]; · iexact Hs
    isplitl [Ho]; · iexact Ho
    isplitl [Hp]; · iexact Hp
    iexact Hw
  iintro ⟨Hst, Hdn⟩
  ihave Hdn' := (Entails.of_eq (dn_eq m d)) $$ Hdn
  icases Hdn' with ⟨Hs, Ho, Hp, Hw⟩
  iapply (wp_hlo_within 𝒱 (SparseCore.T d) none Set.univ (op := opTurn) (S := two) hTurn (V := V1 m d)) $$ [Hb Hw Hz]
  · isplitl [Hb]; · iexact Hb
    rw [held_two, V1_w, V1_z]
    isplitl [Hw]; · iexact Hw
    iexact Hz
  iintro ⟨Hb, Hheld⟩
  ihave Hh := (Entails.of_eq (held_two (F := F) d _)) $$ Hheld
  icases Hh with ⟨-, Hz⟩
  ihave Hz' := (Entails.of_eq (congrArg (fun f => (zLoc d ↦{fullShare} f : sProp 𝕄)) (turned m d))) $$ Hz
  rw [wp_ret]; imodintro; imodintro
  isplitl [Hst]; · iexact Hst
  isplitr [Hb Hts]
  · isplitl [Hs]; · iexact Hs
    isplitl [Hod Ho]
    · iapply (Transfers.pointsTo_toks_join (ℓ := oLoc d) fullShare 2)
      isplitl [Hod]; · iexact Hod
      iexact Ho
    isplitl [Hpd Hp]
    · iapply (Transfers.pointsTo_toks_join (ℓ := pLoc d) fullShare 2)
      isplitl [Hpd]; · iexact Hpd
      iexact Hp
    iexact Hz'
  isplitl [Hb] <;> iassumption

/-! ## The run -/

/-- What the final memory holds on device `d`. -/
def fq (d : Dev nD) (s' : Phys nD τ sig (Elt F)) : Prop :=
  s'.mem.mem (sLoc d) = m (sLoc d) ∧ s'.mem.mem (oLoc d) = m (oLoc d) ∧ s'.mem.mem (pLoc d) = m (pLoc d) ∧ s'.mem.mem (zLoc d) = zBuf m d

omit [FloatOps F] in
/-- A buffer held whole has, in memory, the contents it is held at. -/
theorem whole_agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hs, Ho, Hp, Hz⟩, HSI⟩
  ihave H := (whole_agree s' (sLoc d) _) $$ [HSI Hs]
  · isplitl [HSI] <;> iassumption
  icases H with ⟨%h1, HSI⟩
  ihave H := (whole_agree s' (oLoc d) _) $$ [HSI Ho]
  · isplitl [HSI] <;> iassumption
  icases H with ⟨%h2, HSI⟩
  ihave H := (whole_agree s' (pLoc d) _) $$ [HSI Hp]
  · isplitl [HSI] <;> iassumption
  icases H with ⟨%h3, HSI⟩
  ihave H := (whole_agree s' (zLoc d) _) $$ [HSI Hz]
  · isplitl [HSI] <;> iassumption
  icases H with ⟨%h4, -⟩
  ipureintro; exact ⟨h1, h2, h3, h4⟩

/-- What every run ends in. -/
def QC : PUnit × MemSt nD τ sig (Elt F) → Prop := fun r =>
  (∀ c : Dev nD, r.2.mem (sLoc c) = m (sLoc c) ∧ r.2.mem (oLoc c) = m (oLoc c) ∧ r.2.mem (pLoc c) = m (pLoc c) ∧ r.2.mem (zLoc c) = zBuf m c)
    ∧ r.2.sem = fun _ => 0

/-- Every run of the program ends, with the arguments unchanged, the result `zBuf` and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

/-- The frame of the kernel at the ideal floats; -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)
/-- of the kernel itself, the same program at the machine's floats. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (run_main (F := Bits) m ρ)

end Cert.Proof.Tiles

end
-- ==== Proof.Algebra.lean ====
/-
  The kernel's result and the reference's, element by element, over the extended reals, and the claims about the reference.
-/
module

public import proofs.«01_k».proof.Proof.Launch
public import proofs.«01_k».proof.Proof.Gen.ReferenceIdeal
public import proofs.«01_k».proof.Proof.Gen.ReferenceIdeal.Run
public import proofs.«01_k».proof.Proof.Gen.Pre_states_in_range
public import Idealize.ShloMosaic.Lib.ReduceAll
public import Idealize.ShloMosaic.Lib.Quiescent
public import Idealize.ShloMosaic.Lib.Pipeline.Value

@[expose] public section

noncomputable section

namespace Cert.Proof.Tiles

open Cert.KernelIdeal Cert.KernelIdeal.Gen

open Idealize.ShloMosaic Idealize.SL.Sem

/-! ## The kernel's result at an element -/

section Kernel

variable {F : FTy → Type} [FloatOps F]

/-- The logarithms that a tile takes: lane `j < 3` is the logarithm of probability `j`. -/
theorem lane_log (p : S3.Idx → F .f32) (j : Fin 3) (x : S16.Idx) (hx : (x 0).val = j.val) :
    k0_pay19 (prPad p) x = FloatOps.log (p (ix1 j)) := by
  obtain ⟨k, rfl⟩ : ∃ k : Fin 16, x = ix1 k := ⟨x 0, (ix1_eta x).symm⟩
  have hk : k.val = j.val := hx
  have hlt : k.val < 3 := hk ▸ j.isLt
  show FloatOps.log (Scalar.select (IntOp.cmpi .slt (lanes (ix1 k)) 3#32) (prPad p (ix1 k)) _) = _
  rw [lane3, if_pos hlt]
  refine congrArg FloatOps.log ?_
  show prPad p (ix1 k) = p (ix1 j)
  exact (dif_pos hlt).trans (congrArg (fun i => p (ix1 i)) (Fin.ext hk))

theorem aVal_eq (p : S3.Idx → F .f32) : aVal p = FloatOps.log (p (ix1 0)) := lane_log p 0 _ rfl
theorem bVal_eq (p : S3.Idx → F .f32) : k0_pay21 (prPad p) = FloatOps.log (p (ix1 1)) := lane_log p 1 _ rfl
theorem cVal_eq (p : S3.Idx → F .f32) : k0_pay22 (prPad p) = FloatOps.log (p (ix1 2)) := lane_log p 2 _ rfl

/-- Lane `k` against the word `j`. -/
theorem lane_is : ∀ (j : Fin 6) (k : Fin 16),
    IntOp.cmpi .eq (lanes (ix1 k)) (BitVec.ofNat 32 j.val) = if k.val = j.val then 1#1 else 0#1 := by decide

theorem later_lanes : ((List.finRange 16).filter fun k => decide (0 < k.val ∧ k.val ≤ 15)) = [1, 2, 3, 4, 5, 6, 7, 8, 9, 10, 11, 12, 13, 14, 15] := by
  decide

/-- The last lane of the running sums of a vector is the sum of its lanes. -/
theorem sum_last (v : IVec S16 32) : extractAt ![15] (scan .sum v) inpos_S16_p15
    = [1, 2, 3, 4, 5, 6, 7, 8, 9, 10, 11, 12, 13, 14, 15].foldl (fun r (k : Fin 16) => r + v (Shape.ofLane (d := ![16]) k)) (v (Shape.ofLane (d := ![16]) (0 : Fin 16))) := by
  show ((List.finRange 16).filter fun k => decide (0 < k.val ∧ k.val ≤ 15)).foldl
    (fun r (k : Fin 16) => r + v (Shape.ofLane (d := ![16]) k)) (v (Shape.ofLane (d := ![16]) (0 : Fin 16))) = _
  rw [later_lanes]

/-- The sum of the vector that keeps only lane `j` of the padded counts is count `j`. -/
theorem pick (o : S6.Idx → BitVec 32) (j : Fin 6) :
    extractAt ![15] (scan .sum (select (cmpi .eq lanes (broadcast S16 (BitVec.ofNat 32 j.val))) (k0_pay20 (F := F) (obPad o)) (broadcast S16 0#32)))
      inpos_S16_p15 = o (ix1 j) := by
  have hl : ∀ k : Fin 16, select (cmpi .eq lanes (broadcast S16 (BitVec.ofNat 32 j.val))) (k0_pay20 (F := F) (obPad o)) (broadcast S16 0#32)
      (Shape.ofLane (d := ![16]) k) = if k.val = j.val then o (ix1 j) else 0#32 := by
    intro k
    have hk : (Shape.ofLane (d := ![16]) k : S16.Idx) = ix1 k := funext fun a => match a with | 0 => rfl
    rw [hk]
    show Scalar.select (IntOp.cmpi .eq (lanes (ix1 k)) (BitVec.ofNat 32 j.val))
      (Scalar.select (IntOp.cmpi .slt (lanes (ix1 k)) 6#32) (obPad o (ix1 k)) 0#32) 0#32 = _
    rw [lane_is, lane6]
    by_cases h : k.val = j.val
    · have h6 : k.val < 6 := h ▸ j.isLt
      rw [if_pos h, if_pos h6, if_pos h]
      show obPad o (ix1 k) = o (ix1 j)
      exact (dif_pos h6).trans (congrArg (fun i => o (ix1 i)) (Fin.ext h))
    · rw [if_neg h, if_neg h]; rfl
  rw [sum_last]
  simp only [List.foldl, hl]
  fin_cases j <;> simp

/-- Row `j` in state 2: the logarithm of the second probability where count `j` is 6, of the third elsewhere. -/
theorem rVal_eq (o : S6.Idx → BitVec 32) (p : S3.Idx → F .f32) (j : Fin 6) :
    rVal o p j = Scalar.select (IntOp.cmpi .eq (o (ix1 j)) 6#32) (FloatOps.log (p (ix1 1))) (FloatOps.log (p (ix1 2))) := by
  rw [← bVal_eq, ← cVal_eq, ← pick (F := F) o j]
  fin_cases j <;> rfl

end Kernel

/-! ## The reference's operands at an element -/

section Reference

variable {α : Type}

/-- An array of length 2097152, spread along the columns, at `(n, j)` is its element `n`. -/
theorem spread_rows (h : ReferenceIdeal.S2097152x1.BroadcastsInDim ReferenceIdeal.S2097152x6 ![0, 1])
    (h' : ReferenceIdeal.S2097152.BroadcastsInDim ReferenceIdeal.S2097152x1 ![0]) (x : ReferenceIdeal.S2097152.Idx → α) (y : ReferenceIdeal.S2097152x6.Idx) :
    broadcastInDim ReferenceIdeal.S2097152x6 ![0, 1] h (broadcastInDim ReferenceIdeal.S2097152x1 ![0] h' x) y = x (ix1 (y 0)) :=
  (broadcastInDim_apply _ h _ y (ix2 (y 0) 0) fun a => match a with | 0 => rfl | 1 => rfl).trans
    (broadcastInDim_apply _ h' x _ (ix1 (y 0)) fun a => match a with | 0 => rfl)

/-- One row spread along the rows, at `(n, j)`, is its element `j`. -/
theorem spread_row (h : ReferenceIdeal.S1x6.BroadcastsInDim ReferenceIdeal.S2097152x6 ![0, 1]) (x : ReferenceIdeal.S1x6.Idx → α) (y : ReferenceIdeal.S2097152x6.Idx) :
    broadcastInDim ReferenceIdeal.S2097152x6 ![0, 1] h x y = x (ix2 0 (y 1)) :=
  broadcastInDim_apply _ h _ y (ix2 0 (y 1)) fun a => match a with | 0 => rfl | 1 => rfl

/-- The six counts as a row. -/
theorem as_row (h : ReferenceIdeal.S6.BroadcastsInDim ReferenceIdeal.S1x6 ![1]) (x : ReferenceIdeal.S6.Idx → α) (j : Fin 6) :
    broadcastInDim ReferenceIdeal.S1x6 ![1] h x (ix2 0 j) = x (ix1 j) :=
  broadcastInDim_apply _ h _ _ (ix1 j) fun a => match a with | 0 => rfl

/-- A scalar array has one index. -/
theorem scalar_ix (i k : ReferenceIdeal.S_.Idx) : i = k := funext fun a => a.elim0

/-- Probability `k`, taken out as a scalar and spread over the whole result. -/
theorem spread_prob (k : Fin 3) (h : ReferenceIdeal.S_.BroadcastsInDim ReferenceIdeal.S2097152x6 ![]) (hs : ReferenceIdeal.S3.Slices ![k.val] ReferenceIdeal.S1)
    (hc : ReferenceIdeal.S1.ShapeCasts ReferenceIdeal.S_) (p : ReferenceIdeal.S3.Idx → α) (y : ReferenceIdeal.S2097152x6.Idx) :
    broadcastInDim ReferenceIdeal.S2097152x6 ![] h (shapeCast ReferenceIdeal.S_ (extractStridedSlice ReferenceIdeal.S1 ![k.val] p hs) hc) y = p (ix1 k) := by
  refine extractStridedSlice_apply _ p hs (Shape.reshapeEquiv hc _) (ix1 k) fun a => ?_
  have h0 : ∀ i : ReferenceIdeal.S1.Idx, ∀ b, (i b).val = 0 := fun i b => match b with | 0 => Nat.lt_one_iff.1 (i 0).isLt
  match a with
  | 0 => exact (Nat.add_zero _).symm.trans (congrArg (k.val + ·) (h0 _ _).symm)

end Reference

/-! ## The two results agree -/

/-- The kernel's pattern for a state that has no probability, and the logarithm of the reference's −99: both `⊥`. -/
theorem nVal_eq : nVal (F := Ideal) = Ideal.log (Ideal.ofBits .f32 0xC2C60000#32) := by
  have h1 : nVal (F := Ideal) = ⊥ := by
    show Ideal.ofBits .f32 0x7FC00000#32 = ⊥
    simp [Ideal.ofBits, Ideal.ieee]
  have h2 : Ideal.ofBits .f32 0xC2C60000#32 = ((-99 : ℝ) : EReal) := by
    simp [Ideal.ofBits, Ideal.ieee, -EReal.coe_mul]; norm_num
  rw [h1, h2, Ideal.log_coe, if_pos (by norm_num)]

/-- A state word between 0 and 2, read signed, is 0, 1 or 2. -/
theorem state_cases (w : BitVec 32) (h0 : 0 ≤ w.toInt) (h2 : w.toInt ≤ 2) : w = 0#32 ∨ w = 1#32 ∨ w = 2#32 := by
  have h : w.toInt = 0 ∨ w.toInt = 1 ∨ w.toInt = 2 := by omega
  rcases h with h | h | h
  · exact Or.inl (BitVec.eq_of_toInt_eq h)
  · exact Or.inr (Or.inl (BitVec.eq_of_toInt_eq h))
  · exact Or.inr (Or.inr (BitVec.eq_of_toInt_eq h))

/-- The precondition, read back: every state is 0, 1 or 2. -/
theorem states_of_pre (s : IVec Pre_states_in_range.S2097152 32) (o : IVec Pre_states_in_range.S6 32) (p : FVec Ideal Pre_states_in_range.S3 .f32)
    (h : Cert.Pre_states_in_range.fn (F := Ideal) s o p = fun _ => 1#1) (x : Pre_states_in_range.S2097152.Idx) :
    s x = 0#32 ∨ s x = 1#32 ∨ s x = 2#32 := by
  haveI : Subsingleton Pre_states_in_range.S_.Idx := ⟨fun i k => funext fun a => a.elim0⟩
  have e := Host.reduce_andi_all _ _ _ _ (fun a => a.elim0) (congrFun h fun a => a.elim0) x
  obtain ⟨e0, e2⟩ := IntOp.andi_eq_one.1 (show IntOp.andi (IntOp.cmpi .sge (s x) 0#32) (IntOp.cmpi .sle (s x) 2#32) = 1#1 from e)
  exact state_cases _ (IntOp.cmpi_sge.1 e0) (IntOp.cmpi_sle.1 e2)

/-- In a state of 0, 1 or 2 the kernel's element is the logarithm of the reference's nested choice. -/
theorem cell_eq (w q : BitVec 32) (a b c t : Ideal .f32) (hw : w = 0#32 ∨ w = 1#32 ∨ w = 2#32) :
    cell (F := Ideal) (Ideal.log a) (Ideal.log t) (Scalar.select (IntOp.cmpi .eq q 6#32) (Ideal.log b) (Ideal.log c)) w
    = Ideal.log (Scalar.select (IntOp.andi (IntOp.cmpi .eq (IntOp.muli w 1#32) 2#32) (IntOp.cmpi .ne q 6#32)) c
        (Scalar.select (IntOp.andi (IntOp.cmpi .eq (IntOp.muli w 1#32) 2#32) (IntOp.cmpi .eq q 6#32)) b
          (Scalar.select (IntOp.cmpi .eq (IntOp.muli w 1#32) 1#32) a t))) := by
  by_cases hq : q = 6#32
  · subst hq; rcases hw with rfl | rfl | rfl <;> rfl
  · have h1 : IntOp.cmpi .eq q 6#32 = 0#1 := by
      show BitVec.ofBool (q == 6#32) = 0#1
      rw [beq_false_of_ne hq]; rfl
    have h2 : IntOp.cmpi .ne q 6#32 = 1#1 := IntOp.cmpi_ne.2 hq
    rw [h1, h2]
    rcases hw with rfl | rfl | rfl <;> rfl

/-- Choices by equal conditions between equal values are equal. -/
theorem select_congr {α : Type} {c c' : BitVec 1} {a a' b b' : α} (hc : c = c') (ha : a = a') (hb : b = b') :
    Scalar.select c a b = Scalar.select c' a' b' := by rw [hc, ha, hb]

/-- The kernel's result at `(n, j)`. -/
theorem turn_rows (s : S2097152.Idx → BitVec 32) (o : S6.Idx → BitVec 32) (p : S3.Idx → Ideal .f32) (y : S2097152x6.Idx) :
    turn (F := Ideal) (rowsOf (F := Ideal) s o p) y = cell (F := Ideal) (Ideal.log (p (ix1 0))) (Ideal.log (Ideal.ofBits .f32 0xC2C60000#32))
      (Scalar.select (IntOp.cmpi .eq (o (ix1 (y 1))) 6#32) (Ideal.log (p (ix1 1))) (Ideal.log (p (ix1 2)))) (s (ix1 (y 0))) := by
  obtain ⟨n, j, rfl⟩ : ∃ (n : Fin 2097152) (j : Fin 6), y = ix2 n j := ⟨y 0, y 1, (ix2_eta y).symm⟩
  refine (transpose_apply _ _ transposes_S6x2097152_S2097152x6_1_0 (ix2 n j) (ix2 j n) fun b => match b with | 0 => rfl | 1 => rfl).trans ?_
  show cell (aVal p) nVal (rVal o p j) (s (ix1 n)) = _
  rw [aVal_eq, rVal_eq, nVal_eq]
  rfl

/-- The reference terminates from any memory, leaves its arguments as they were, and has every semaphore at zero:
    it declares none. -/
theorem frame_reference : Cert.quiescent_ReferenceIdeal := by
  intro m ρ _
  exact (θ_run ReferenceIdeal.defs _ _).mono (fun r h => ⟨fun c => (h c).2, sem_eq_zero_of_no_sems (by decide) r.2⟩)
    (ReferenceIdeal.Value.run (F := Ideal) m ρ)

/-- Where every state is 0, 1 or 2 the kernel and the reference end with the same array, element for element, over the
    extended reals. -/
theorem algebraic : Cert.algebraic_KernelIdeal_ReferenceIdeal_pre_states_in_range := by
  intro m g m' g' hpre hm
  refine ⟨fun c => zBuf m c, ?_, ?_⟩
  · exact (θ_run KernelIdeal.defs _ _).mono (fun r h c => ⟨(h.1 c).2.2.2, (h.1 c).1, (h.1 c).2.1, (h.1 c).2.2.1⟩) (run_main (F := Ideal) m g)
  · refine (θ_run ReferenceIdeal.defs _ _).mono (fun r h c => ⟨(h c).1.trans ?_, (h c).2⟩) (ReferenceIdeal.Value.run (F := Ideal) m' g')
    obtain ⟨hs, ho, hp⟩ := hm c
    funext y
    have hw := states_of_pre _ _ _ (hpre c) (ix1 (y 0))
    refine Eq.trans ?_ ((turn_rows (m (sLoc c)) (m (oLoc c)) (m (pLoc c)) y).trans (cell_eq _ _ _ _ _ _ hw)).symm
    rw [hs, ho, hp]
    refine congrArg Ideal.log ?_
    have h2 := congrArg (fun w => IntOp.cmpi .eq (IntOp.muli w 1#32) 2#32) (spread_rows ReferenceIdeal.Gen.bcast_S2097152x1_S2097152x6_0_1
      ReferenceIdeal.Gen.bcast_S2097152_S2097152x1_0 (m (sLoc c)) y)
    have h1 := congrArg (fun w => IntOp.cmpi .eq (IntOp.muli w 1#32) 1#32) (spread_rows ReferenceIdeal.Gen.bcast_S2097152x1_S2097152x6_0_1
      ReferenceIdeal.Gen.bcast_S2097152_S2097152x1_0 (m (sLoc c)) y)
    have hq : ∀ P, broadcastInDim ReferenceIdeal.S2097152x6 ![0, 1] ReferenceIdeal.Gen.bcast_S1x6_S2097152x6_0_1
        (cmpi P (broadcastInDim ReferenceIdeal.S1x6 ![1] ReferenceIdeal.Gen.bcast_S6_S1x6_1 (m (oLoc c)))
          (broadcastInDim ReferenceIdeal.S1x6 ![] ReferenceIdeal.Gen.bcast_S_S1x6 (constantI ReferenceIdeal.S_ 32 6#32))) y
        = IntOp.cmpi P (m (oLoc c) (ix1 (y 1))) 6#32 := fun P =>
      (spread_row _ _ y).trans (congrArg (fun q => IntOp.cmpi P q 6#32) (as_row ReferenceIdeal.Gen.bcast_S6_S1x6_1 (m (oLoc c)) (y 1)))
    exact select_congr (congrArg₂ IntOp.andi h2 (hq .ne)) (spread_prob 2 _ _ _ _ y)
      (select_congr (congrArg₂ IntOp.andi h2 (hq .eq)) (spread_prob 1 _ _ _ _ y) (select_congr h1 (spread_prob 0 _ _ _ _ y) rfl))

end Cert.Proof.Tiles

end
-- ==== Proof.lean ====
/-
  The claims, put together: the three programs' stated facts, the frames of the three programs, that the kernel with its
  floats read as extended reals is the same program as the kernel in bits, and that the kernel and the reference end with
  the same array where every state is 0, 1 or 2.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_states_in_range
public import proofs.«01_k».proof.Proof.Algebra

@[expose] public section

noncomputable section

namespace Cert.Proof

open Idealize.ShloMosaic Idealize.SL.Sem

/-- Every claim holds. The frames under the precondition are the frames without one. -/
theorem claim : Cert.Claim :=
  ⟨Cert.Kernel.Gen.facts, Cert.KernelIdeal.Gen.facts, Cert.ReferenceIdeal.Gen.facts, Cert.Pre_states_in_range.Gen.facts,
    Tiles.frame_kernel, Tiles.frame_ideal, fun m g _ => Tiles.frame_ideal m g trivial, Tiles.frame_reference,
    fun m g _ => Tiles.frame_reference m g trivial, trivial, Tiles.algebraic⟩

end Cert.Proof

end
